-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 2048, 1024]⟩ ⟨3, ![4, 8192, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![4, 2048, 1024]⟩ ⟨3, ![4, 8192, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S4x1024 : Shape := ⟨2, ![4, 1024]⟩
abbrev S4x3x1024 : Shape := ⟨3, ![4, 3, 1024]⟩
abbrev S_ : Shape := ⟨0, ![]⟩
abbrev S1x2048x1024 : Shape := ⟨3, ![1, 2048, 1024]⟩
abbrev S1x3x1024 : Shape := ⟨3, ![1, 3, 1024]⟩
abbrev S3x1024 : Shape := ⟨2, ![3, 1024]⟩
abbrev S1x512x1024 : Shape := ⟨3, ![1, 512, 1024]⟩
abbrev S512x1024 : Shape := ⟨2, ![512, 1024]⟩
abbrev S515x1024 : Shape := ⟨2, ![515, 1024]⟩
abbrev S1x1024 : Shape := ⟨2, ![1, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x1024, .bf16⟩
  | .hbm, ⟨1, _⟩ => ⟨S4x1024, .bf16⟩
  | .hbm, ⟨2, _⟩ => ⟨S4x3x1024, .bf16⟩
  | .hbm, ⟨3, _⟩ => ⟨S4x3x1024, .bf16⟩
  | .hbm, ⟨4, _⟩ => ⟨S4x2048x1024, .bf16⟩
  | .local _ .vmem, ⟨0, _⟩ => ⟨S4x3x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x3x1024, .bf16⟩
  | .local _ .vmem, ⟨4, _⟩ => ⟨S1x3x1024, .bf16⟩
  | .local _ .vmem, ⟨5, _⟩ => ⟨S4x1024, .bf16⟩
  | .local _ .vmem, ⟨6, _⟩ => ⟨S1x2048x1024, .bf16⟩
  | .local _ .vmem, ⟨7, _⟩ => ⟨S1x2048x1024, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc1_stg0_0 : Ref sig .tc := ⟨.vmem, 1, rfl⟩
abbrev cc1_stg0_1 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_10 : BitVec 32 := 1#32
  let v13 : BitVec 32 := Scalar.muli v7 c1_i32_10
  let v14 : BitVec 32 := Scalar.addi c0_i32_11 v13
  v14.toNat
abbrev stage0_0 : Fin 1 → Memref sig .tc .vmem S4x3x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x8192x1024 : Shape := ⟨3, ![4, 8192, 1024]⟩
abbrev S4x1024 : Shape := ⟨2, ![4, 1024]⟩
abbrev S_ : Shape := ⟨0, ![]⟩
abbrev S4x3x1024 : Shape := ⟨3, ![4, 3, 1024]⟩
abbrev S4x8195x1024 : Shape := ⟨3, ![4, 8195, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x1024, .bf16⟩
  | .hbm, ⟨2, _⟩ => ⟨S4x8192x1024, .f32⟩
  | .hbm, ⟨3, _⟩ => ⟨S4x1024, .f32⟩
  | .hbm, ⟨4, _⟩ => ⟨S_, .f32⟩
  | .hbm, ⟨5, _⟩ => ⟨S4x3x1024, .f32⟩
  | .hbm, ⟨6, _⟩ => ⟨S4x8195x1024, .f32⟩
  | .hbm, ⟨7, _⟩ => ⟨S_, .f32⟩
  | .hbm, ⟨8, _⟩ => ⟨S4x8192x1024, .f32⟩
  | .hbm, ⟨9, _⟩ => ⟨S4x8192x1024, .f32⟩
  | .hbm, ⟨10, _⟩ => ⟨S1x1024, .f32⟩
  | .hbm, ⟨11, _⟩ => ⟨S1024, .f32⟩
  | .hbm, ⟨12, _⟩ => ⟨S1x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Proof.Protocol.lean ====
/-
  The exchange of halo rows, as a protocol over counters.

  Before the first kernel the host code cuts the last three rows out of a device's block. Device `c` then tells both
  neighbours that it has entered the kernel, waits until both have told it the same, and copies those rows into its right
  neighbour's staging buffer. Three counters per device take part:
  the barrier, the send counter and the receive counter. This module fixes what each unit on each counter hands over,
  what every device owes at launch, and in which order the counters may be waited for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Pipeline.RegionArraysS
public import Idealize.ShloMosaic.Lib.Rounds
public import Idealize.ShloMosaic.Lib.Tactic

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type}

/-- The ghost algebra: the staging pipelines' copy beside the exchange's, whose duties at a counter are told apart by a Boolean. -/
abbrev Exch : Type := URounds (GSem nD τ sig) Bool
/-- The two together. -/
abbrev Ghost : Type := UR sig nD τ × Exch

local notation "𝕄" => MT nD τ sig Unit (Elt F) ℕ Ghost ℕ

/-- The staging pipelines' half of the ghost state. -/
abbrev pipeG : Emb (UR sig nD τ) (MT nD τ sig Unit (Elt F) ℕ Ghost ℕ) := embL
/-- The exchange's half. -/
abbrev exG : Emb Exch (MT nD τ sig Unit (Elt F) ℕ Ghost ℕ) := embR

variable (m : (ℓ : Loc nD τ sig) → Buf (Elt F) ℓ)

/-! ## Neighbours -/

set_option backward.proofsInPublic true in
/-- The device that receives `c`'s last rows. -/
def right (c : Dev nD) : Dev nD := ⟨(c.val + 1) % 4, Nat.mod_lt _ (by decide)⟩
set_option backward.proofsInPublic true in
/-- The device whose last rows `c` receives. -/
def left (c : Dev nD) : Dev nD := ⟨(c.val + 3) % 4, Nat.mod_lt _ (by decide)⟩

/-- Left undoes right, -/
theorem left_right : ∀ c : Dev nD, left (right c) = c := by decide
/-- right undoes left, -/
theorem right_left : ∀ c : Dev nD, right (left c) = c := by decide
/-- and on four devices the two neighbours differ. -/
theorem left_ne_right : ∀ c : Dev nD, left c ≠ right c := by decide

/-- Going one device to the right, as a permutation of the mesh. -/
def turn : Dev nD ≃ Dev nD := ⟨right, left, left_right, right_left⟩

/-- The first signal's computed target is the left neighbour, -/
theorem sig1_left (c : Dev nD) : (⟨k0_dev1 c, k0_dev1_lt c⟩ : Dev nD) = left c := Fin.ext (k0_dev1_eq c)
/-- the second signal's the right one, -/
theorem sig2_right (c : Dev nD) : (⟨k0_dev2 c, k0_dev2_lt c⟩ : Dev nD) = right c := Fin.ext (k0_dev2_eq c)
/-- and so is the copy's. -/
theorem copy_right (c : Dev nD) : (⟨k0_dev3 c, k0_dev3_lt c⟩ : Dev nD) = right c := Fin.ext (k0_dev3_eq c)

/-! ## Counters and buffers -/

/-- The three counters a device uses in the exchange. -/
inductive Port : Type
  | bar | send | recv
  deriving DecidableEq

/-- The barrier counter. -/
abbrev barS : Sem sig := (SemArray.scalar (sig.barrier 0 rfl) : Sems sig S_).sem

/-- Where each of the three counters lives. -/
abbrev Port.sem : Port → SemLoc sig
  | .bar => .reg barS
  | .send => .dma cc0_scratch0.sem
  | .recv => .dma cc0_scratch1.sem

/-- Which of the three a semaphore is, if any. -/
def portOf (s : SemLoc sig) : Option Port :=
  if s = Port.bar.sem then some .bar else if s = Port.send.sem then some .send else if s = Port.recv.sem then some .recv else none

/-- A port is found from its semaphore, -/
theorem portOf_sem : ∀ p : Port, portOf p.sem = some p
  | .bar => by decide
  | .send => by decide
  | .recv => by decide

/-- so ports with one semaphore are one. -/
theorem Port.sem_inj {p q : Port} (h : p.sem = q.sem) : p = q :=
  Option.some.inj ((portOf_sem p).symm.trans ((congrArg portOf h).trans (portOf_sem q)))

/-- Counter `p` of device `c`. -/
abbrev cell (p : Port) (c : Dev nD) : GSem nD τ sig := ((c : Thread nD τ), p.sem)

/-- A counter tells its device -/
theorem cell_dev {p q : Port} {c d : Dev nD} (h : cell p c = cell q d) : c = d := congrArg (fun g : GSem nD τ sig => g.1.1) h
/-- and its port. -/
theorem cell_port {p q : Port} {c d : Dev nD} (h : cell p c = cell q d) : p = q := Port.sem_inj (congrArg Prod.snd h)

/-- The buffer that a device sends, which holds the last three rows of every batch entry of its block, -/
abbrev srcM : Memref sig .tc .hbm S4x3x1024 .bf16 := Memref.whole main_v1
/-- and where they land: the staging buffer of the first kernel's result. -/
abbrev dstM : Memref sig .tc .vmem S4x3x1024 .bf16 := Memref.whole cc0_stg0_0

/-- What the copy adds to the counters at both ends. -/
abbrev rowsCredit : ℕ := (dstM : Memref sig .tc .vmem S4x3x1024 .bf16).view.dmaCredit
/-- A copy of three rows is worth some credit. -/
theorem rowsCredit_pos : 0 < rowsCredit := View.dmaCredit_pos _ (by decide)

/-- The rows that device `c` sends: the last three of every batch entry of its block. -/
def sent (c : Dev nD) : (main_v1 : Ref sig .tc).ty.Contents (Elt F) :=
  extractStridedSlice S4x3x1024 ![0, 2045, 0] (m ((c : Thread nD τ).loc main_arg0)) slices_S4x2048x1024_S4x3x1024_0_2045_0

/-- What lands on device `c`: what the left neighbour sent. -/
def landed (c : Dev nD) : (cc0_stg0_0 : Ref sig .tc).ty.Contents (Elt F) := sent m (left c)

/-- A copy of whole rows over the whole landing buffer leaves just those rows, whatever the buffer held. -/
theorem overwrite (f v : (cc0_stg0_0 : Ref sig .tc).ty.Contents (Elt F)) :
    (dstM : Memref sig .tc .vmem S4x3x1024 .bf16).view.write (Elt F) f v Finset.univ = v :=
  View.write_whole_univ _ _ _

/-- Device `c`'s landing buffer, held at `f`. -/
def landing (c : Dev nD) (f : Buf (Elt F) ((c : Thread nD τ).loc cc0_stg0_0)) : sProp 𝕄 :=
  (dstM : Memref sig .tc .vmem S4x3x1024 .bf16).view.loc (c : Thread nD τ) ↦[(dstM : Memref sig .tc .vmem S4x3x1024 .bf16).view.set]{fullShare} f
/-- Device `c`'s outgoing rows. -/
def outgoing (c : Dev nD) : sProp 𝕄 :=
  srcM.view.loc (c : Thread nD τ) ↦[srcM.view.set]{fullShare} sent m c

/-- The landing buffer, held whole. -/
theorem landing_whole (c : Dev nD) (f : Buf (Elt F) ((c : Thread nD τ).loc cc0_stg0_0)) :
    (landing c f : sProp 𝕄) = (((c : Thread nD τ).loc cc0_stg0_0) ↦{fullShare} f) := by
  unfold landing; rw [View.set_whole]

/-- The outgoing rows, held whole. -/
theorem outgoing_whole (c : Dev nD) :
    (outgoing m c : sProp 𝕄) = (((c : Thread nD τ).loc main_v1) ↦{fullShare} sent m c) := by
  unfold outgoing; rw [View.set_whole]

instance (c : Dev nD) (f) : BI.Storable (upEmb : UEmb _ 𝕄) (landing (F := F) c f) := by unfold landing; infer_instance
instance (c : Dev nD) : BI.Storable (upEmb : UEmb _ 𝕄) (outgoing (F := F) m c) := by unfold outgoing; infer_instance

/-! ## The schedule -/

/-- The duties at each counter: one for each neighbour at the barrier (`true` is paid from the right), one at the others. -/
def Port.dues : Port → Finset Bool
  | .bar => Finset.univ
  | _ => {false}

/-- The units a duty brings. -/
def Port.units : Port → ℕ
  | .bar => 1
  | _ => rowsCredit

/-- What a unit hands to device `c`: from the right at the barrier, leave to write the right neighbour's landing buffer,
    whose receive counter is in its first round; from the left nothing; at the send counter the outgoing rows back; at the
    receive counter the landing buffer at what landed. -/
def Port.gives (p : Port) (c : Dev nD) (d : Bool) : sProp 𝕄 :=
  match p, d with
  | .bar, true => iprop((∃ f, landing (right c) f) ∗ reached exG (cell .recv (right c)) 0)
  | .bar, false => iprop(emp)
  | .send, _ => outgoing m c
  | .recv, _ => landing c (landed m c)

instance (p : Port) (c : Dev nD) (d : Bool) : BI.Storable (upEmb : UEmb _ 𝕄) (p.gives (F := F) m c d) := by
  cases p <;> cases d <;> dsimp only [Port.gives] <;> infer_instance

/-- The one round of every counter of the exchange. -/
def plan : Rounds.Schedule (GSem nD τ sig) Bool 𝕄 where
  duties g r := if r = 0 ∧ g.1.2 = .tc then ((portOf g.2).map Port.dues).getD ∅ else ∅
  unitless _ := False
  amount g _ _ := ((portOf g.2).map Port.units).getD 1
  payload g _ d := match portOf g.2 with
    | some p => p.gives m g.1.1 d
    | none => iprop(emp)
  amount_pos g _ _ _ := by
    cases portOf g.2 with
    | none => exact Nat.one_pos
    | some p => cases p <;> first | exact Nat.one_pos | exact rowsCredit_pos

instance (g : GSem nD τ sig) (r : ℕ) (d : Bool) : BI.Storable (upEmb : UEmb _ 𝕄) ((plan (F := F) m).payload g r d) := by
  dsimp only [plan]; split <;> infer_instance

/-- A counter's first round has its port's duties, -/
theorem plan_duties (p : Port) (c : Dev nD) : (plan (F := F) m).duties (cell p c) 0 = p.dues := by
  dsimp only [plan]; rw [if_pos ⟨rfl, rfl⟩, portOf_sem]; rfl
/-- no later round has any, -/
theorem plan_over (g : GSem nD τ sig) (r : ℕ) (hr : 1 ≤ r) : (plan (F := F) m).duties g r = ∅ :=
  if_neg fun h => absurd h.1 (Nat.ne_of_gt hr)
/-- each is worth the port's units, -/
theorem plan_amount (p : Port) (c : Dev nD) (d : Bool) : (plan (F := F) m).amount (cell p c) 0 d = p.units := by
  dsimp only [plan]; rw [portOf_sem]; rfl
/-- and gives what the port gives. -/
theorem plan_payload (p : Port) (c : Dev nD) (d : Bool) : (plan (F := F) m).payload (cell p c) 0 d = p.gives m c d := by
  dsimp only [plan]; rw [portOf_sem]

/-- Every port has the duty `false`. -/
theorem false_due (p : Port) : false ∈ p.dues := by cases p <;> decide

/-- The total a device waits for at each counter. -/
theorem plan_expect (p : Port) (c : Dev nD) : (plan (F := F) m).expect (cell p c) 0 = p.dues.card * p.units := by
  unfold Schedule.expect Schedule.amountOf
  rw [plan_duties, Finset.sum_congr rfl fun d _ => plan_amount m p c d, Finset.sum_const, smul_eq_mul]
/-- The barrier waits for two, -/
theorem expect_bar (c : Dev nD) : (plan (F := F) m).expect (cell .bar c) 0 = 2 := plan_expect m .bar c
/-- the sender for its own copy, -/
theorem expect_send (c : Dev nD) : (plan (F := F) m).expect (cell .send c) 0 = rowsCredit := (plan_expect m .send c).trans (Nat.one_mul _)
/-- the receiver for the rows that arrive. -/
theorem expect_recv (c : Dev nD) : (plan (F := F) m).expect (cell .recv c) 0 = rowsCredit := (plan_expect m .recv c).trans (Nat.one_mul _)

/-- All that a wait for a whole round hands over. -/
abbrev handover (p : Port) (c : Dev nD) : sProp 𝕄 :=
  bigSep ((plan (F := F) m).duties (cell p c) 0 \ ∅) fun d => (plan (F := F) m).payload (cell p c) 0 d

/-- What a port hands over is what its duties give: -/
theorem handover_eq (p : Port) (c : Dev nD) : handover (F := F) m p c = bigSep p.dues fun d => p.gives m c d := by
  unfold handover
  rw [Finset.sdiff_empty, plan_duties]
  exact bigSep_congr fun d _ => plan_payload m p c d
/-- at the barrier, both neighbours' parts; -/
theorem handover_bar (c : Dev nD) : handover (F := F) m .bar c = iprop(Port.bar.gives m c false ∗ Port.bar.gives m c true) :=
  (handover_eq m .bar c).trans (bigSep_univ_eq_bigSepL [false, true] (by decide) (by decide) _)
/-- at the send semaphore, the outgoing rows; -/
theorem handover_send (c : Dev nD) : handover (F := F) m .send c = outgoing m c := (handover_eq m .send c).trans BI.bigSep_singleton
/-- at the receive semaphore, the landed rows. -/
theorem handover_recv (c : Dev nD) : handover (F := F) m .recv c = landing c (landed m c) := (handover_eq m .recv c).trans BI.bigSep_singleton

/-! ## Debts at launch and the order of waits -/

/-- After both signals a device still owes the right neighbour's receive counter the rows. -/
abbrev debtRows (c : Dev nD) : CellTallies nD τ sig Unit := tallyAt (cell .recv (right c)) () rowsCredit
/-- After the first signal it also owes the right neighbour's barrier a unit; -/
def debtMid (c : Dev nD) : CellTallies nD τ sig Unit := debtRows c + tallyAt (cell .bar (right c)) () 1
/-- at launch the left neighbour's as well. -/
def debt (c : Dev nD) : CellTallies nD τ sig Unit := debtMid c + tallyAt (cell .bar (left c)) () 1

/-- Every counter of a device's main thread carries a level. -/
def levels (g : GSem nD τ sig) : Finset Unit := if g.1.2 = .tc then {()} else ∅
/-- Barriers lie below receive counters; all other counters lie below both. -/
def level (g : GSem nD τ sig) (_ : Unit) : ℕ := match portOf g.2 with
  | some .bar => 1
  | some .recv => 2
  | _ => 0

/-- Only the counters of a device's main thread have a level, -/
theorem levels_off (g : GSem nD τ sig) (h : g.1.2 ≠ .tc) : levels g = ∅ := if_neg h
/-- each of those has one, -/
theorem mem_levels (c : Dev nD) (s : SemLoc sig) : () ∈ levels ((c : Thread nD τ), s) := by
  unfold levels; rw [if_pos rfl]; exact Finset.mem_singleton_self _

/-- and this is it. -/
theorem level_cell (p : Port) (c : Dev nD) : level (cell p c) () = match p with | .bar => 1 | .recv => 2 | .send => 0 := by
  unfold level; rw [portOf_sem]; cases p <;> rfl

/-- A tally counts only at its own counter. -/
theorem tally_pos {g h : GSem nD τ sig} {n : ℕ} {u : Unit} (hp : 0 < (tallyAt g () n : CellTallies nD τ sig Unit) h u) : h = g := by
  rw [tallyAt_apply] at hp
  split at hp
  · next e => exact e.1
  · exact absurd hp (Nat.lt_irrefl 0)

/-- A device owes only to receive counters and barriers. -/
theorem debt_cases {c : Dev nD} {g : GSem nD τ sig} {u : Unit} (h : 0 < debt c g u) :
    ∃ p d, g = cell p d ∧ (p = .bar ∨ p = .recv) := by
  unfold debt debtMid at h
  rw [Pi.add_apply, Finsupp.add_apply, Pi.add_apply, Finsupp.add_apply] at h
  rcases Nat.add_pos_iff_pos_or_pos.mp h with h | h
  · rcases Nat.add_pos_iff_pos_or_pos.mp h with h | h
    · exact ⟨_, _, tally_pos h, .inr rfl⟩
    · exact ⟨_, _, tally_pos h, .inl rfl⟩
  · exact ⟨_, _, tally_pos h, .inl rfl⟩

/-- What is owed lies above level zero. -/
theorem debt_high {c : Dev nD} {g : GSem nD τ sig} {u : Unit} (h : 0 < debt c g u) : u ∈ levels g ∧ 0 < level g u := by
  cases u
  obtain ⟨p, d, rfl, hp⟩ := debt_cases h
  refine ⟨mem_levels _ _, ?_⟩
  rw [level_cell]
  rcases hp with rfl | rfl <;> decide

/-- A device may wait at its barrier while it still owes the rows. -/
theorem may_wait_bar (c : Dev nD) : (levAts levels level : sProp 𝕄) ⊢ MayWait (c : Thread nD τ) (Port.sem .bar) () (debtRows c) :=
  MayOwe.of_cut (L := levels) (lev := level) 1
    (fun q hq => by rw [Finset.mem_singleton.mp hq]; exact mem_levels c _)
    (fun g u hg => by rw [tally_pos hg]; exact mem_levels _ _)
    (fun q hq => by rw [Finset.mem_singleton.mp hq]; exact Nat.le_of_eq (level_cell .bar c))
    (fun g u hg => by rw [tally_pos hg]; exact Nat.lt_of_lt_of_eq (by decide) (level_cell .recv _).symm)

/-! ## A device's part of the ghost state -/

/-- The invariants device `c` makes use of, under the names `κ`. -/
def known (κ : GSem nD τ sig → ℕ) (c : Dev nD) : sProp 𝕄 :=
  iprop((cellInv exG (plan m) (κ (cell .bar c)) (cell .bar c) ∗ cellInv exG (plan m) (κ (cell .send c)) (cell .send c)
      ∗ cellInv exG (plan m) (κ (cell .recv c)) (cell .recv c))
    ∗ (cellInv exG (plan m) (κ (cell .bar (left c))) (cell .bar (left c)) ∗ cellInv exG (plan m) (κ (cell .bar (right c))) (cell .bar (right c))
      ∗ cellInv exG (plan m) (κ (cell .recv (right c))) (cell .recv (right c)))
    ∗ reached exG (cell .bar (left c)) 0 ∗ reached exG (cell .bar (right c)) 0)

instance (κ : GSem nD τ sig → ℕ) (c : Dev nD) : BI.Persistent (known (F := F) m κ c) := by unfold known; infer_instance

/-- The rights to pay that device `c` uses: at both neighbours' barriers, at the right neighbour's receive counter and
    at its own send counter. -/
def payRights (c : Dev nD) : sProp 𝕄 :=
  iprop(dutyTok exG (cell .bar (left c)) 0 true ∗ dutyTok exG (cell .bar (right c)) 0 false
    ∗ dutyTok exG (cell .recv (right c)) 0 false ∗ dutyTok exG (cell .send c) 0 false)

/-- What a device brings to the first kernel from launch: its barrier counter is in use, the send and receive counters
    are still to be opened. -/
def atLaunch (c : Dev nD) : sProp 𝕄 :=
  iprop((∃ κ, known m κ c ∗ atPos exG (cell .bar c) 0 ∅ 0 ∗ (openTok exG (cell .send c) ∗ openTok exG (cell .recv c)) ∗ payRights c)
    ∗ cred (tallyAt (cell .bar c) () 2) ∗ cred (tallyAt (cell .recv c) () rowsCredit))

/-- The same once the send and receive counters are in use, under the names `κ`. -/
def inUse (κ : GSem nD τ sig → ℕ) (c : Dev nD) : sProp 𝕄 :=
  iprop(known m κ c ∗ (atPos exG (cell .bar c) 0 ∅ 0 ∗ atPos exG (cell .send c) 0 ∅ 0 ∗ atPos exG (cell .recv c) 0 ∅ 0)
    ∗ (reached exG (cell .send c) 0 ∗ reached exG (cell .recv c) 0) ∗ payRights c)

/-- And with the credit to wait and the levels. -/
def entered (c : Dev nD) : sProp 𝕄 :=
  iprop((∃ κ, inUse m κ c) ∗ cred (tallyAt (cell .bar c) () 2) ∗ cred (tallyAt (cell .recv c) () rowsCredit) ∗ levAts levels level)

/-- The kernel's own counters, in the order the region lists them. -/
abbrev ownSem : Fin 2 → SemLoc sig := fun | 0 => Port.sem .send | 1 => Port.sem .recv

/-- The two semaphores of a device's own copy. -/
theorem ownSems_eq (c : Dev nD) : (Pipeline.ownSems0 ownSem c : sProp 𝕄) = iprop(semVal (cell .send c) 0 ∗ semVal (cell .recv c) 0) :=
  BI.bigSep_fin_two (fun k : Fin 2 => (semVal ((c : Thread nD τ), ownSem k) 0 : sProp 𝕄))

/-- Entering the first kernel puts the send and receive counters to use. -/
theorem enter (c : Dev nD) : iprop(atLaunch m c ∗ Pipeline.ownSems0 ownSem c ∗ levAts levels level) ⊢ (|={Set.univ}=> entered m c : sProp 𝕄) := by
  rw [ownSems_eq]
  unfold atLaunch entered
  iintro ⟨⟨⟨%κ, #Hk, HB, ⟨HoS, HoR⟩, Hpay⟩, Hc1, Hc2⟩, ⟨HvS, HvR⟩, #Hlev⟩
  ihave #Hk' := (Entails.of_eq (by unfold known; rfl : known m κ c = _)) $$ Hk
  icases Hk' with ⟨⟨-, #HS, #HR⟩, -, -⟩
  imod (Rounds.cell_open exG (plan m) (g := cell .send c) (Set.mem_univ (κ (cell .send c)))) $$ [HoS HvS] with ⟨HaS, #HrS⟩
  · isplitr; · iexact HS
    isplitl [HoS] <;> iassumption
  imod (Rounds.cell_open exG (plan m) (g := cell .recv c) (Set.mem_univ (κ (cell .recv c)))) $$ [HoR HvR] with ⟨HaR, #HrR⟩
  · isplitr; · iexact HR
    isplitl [HoR] <;> iassumption
  imodintro
  isplitr [Hc1 Hc2]
  · iexists κ; unfold inUse
    isplitr; · iexact Hk
    isplitl [HB HaS HaR]
    · isplitl [HB]; · iexact HB
      isplitl [HaS] <;> iassumption
    isplitr
    · isplitr; · iexact HrS
      iexact HrR
    iexact Hpay
  isplitl [Hc1]; · iexact Hc1
  isplitl [Hc2]; · iexact Hc2
  iexact Hlev

/-- A counter whose round is over is closed and found at zero. -/
theorem retire (κ : ℕ) (g : GSem nD τ sig) :
    iprop(cellInv exG (plan m) κ g ∗ atPos exG g (0 + 1) ∅ 0) ⊢ (|={Set.univ}=> semVal g 0 : sProp 𝕄) :=
  Rounds.cell_close exG (plan m) (Set.mem_univ κ) id (plan_over m g)

end Halo

end
-- ==== Proof.HaloBody.lean ====
/-
  The first kernel on one device: what it leaves in its result's staging buffer, and the run of its body.

  The body is run once, at a device `c` left open, from what the device brings from launch to all three of its counters
  back at zero. Only the last step depends on the place: device 0 overwrites what landed by zeros.
-/
module

public import proofs.«01_k».proof.Proof.Protocol

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ Ghost ℕ

variable (m : (ℓ : Loc nD τ sig) → Buf (Elt F) ℓ)

/-- No variants are needed: nothing loops. -/
abbrev 𝒱₀ : Variants := Variants.none

/-- The rows before device `c`'s block: zeros on device 0, the left neighbour's last rows elsewhere. -/
def haloAt (c : Dev nD) : (cc0_stg0_0 : Ref sig .tc).ty.Contents (Elt F) :=
  if c.val = 0 then k0_pay1 else landed m c

/-- The printed test whether a device is the first one holds on device 0 only. -/
theorem first_iff : ∀ c : Dev nD,
    (Scalar.cmpi .ne (Scalar.extui (Scalar.cmpi .eq (Scalar.remsi (Scalar.divsi (Dev.word c) 1#32) 4#32) 0#32) : BitVec 32) 0#32 : BitVec 1) = 1#1
      ↔ c.val = 0 := by decide

/-- The offset of an access to a whole rank-three buffer. -/
theorem corner : (![0, 0, 0] : Fin 3 → Nat) = fun _ => 0 := funext fun a => by fin_cases a <;> rfl

/-- All of the halo. -/
abbrev allRows : Rect S4x3x1024 := Rect.unit (s := S4x3x1024) ![0, 0, 0] S4x3x1024.size inb_S4x3x1024_S4x3x1024_0_0_0

/-- A store of whole rows leaves just what was stored. -/
theorem stored (f w : (cc0_stg0_0 : Ref sig .tc).ty.Contents (Elt F)) :
    ((dstM : Memref sig .tc .vmem S4x3x1024 .bf16).access allRows : View sig .tc _ _ _).write (Elt F) f w Finset.univ = w :=
  Memref.write_access_unit_zero_univ (Elt F) cc0_stg0_0 corner _ f w

/-- A duty of a counter's schedule, from its list. -/
theorem due_mem (p : Port) (c : Dev nD) {d : Bool} (h : d ∈ p.dues) : d ∈ (plan (F := F) m).duties (cell p c) 0 := by
  rw [plan_duties]; exact h

/-- What the left neighbour's barrier is paid with: leave to write this device's landing buffer. -/
theorem pay_left (c : Dev nD) : iprop((∃ f, landing c f) ∗ reached exG (cell .recv c) 0) ⊢ ((plan (F := F) m).payload (cell .bar (left c)) 0 true : sProp 𝕄) := by
  rw [plan_payload]
  show _ ⊢ iprop((∃ f, landing (right (left c)) f) ∗ reached exG (cell .recv (right (left c))) 0)
  rw [right_left]

/-- The right neighbour's barrier is paid with nothing. -/
theorem pay_right (c : Dev nD) : (emp : sProp 𝕄) ⊢ ((plan (F := F) m).payload (cell .bar (right c)) 0 false : sProp 𝕄) := by
  rw [plan_payload]; exact BI.Entails.refl _

/-- The copy to the right neighbour: both ends' invariants, the outgoing rows, the neighbour's landing buffer and the two
    rights to pay go in; the credit for the send counter comes out, and nothing is owed any more. -/
theorem wp_copy (κ : GSem nD τ sig → ℕ) (c n : Dev nD) (hn : n = right c)
    {hsc : (dstM : Memref sig (Dev.tc n : Thread nD τ).2.kind .vmem S4x3x1024 .bf16).view.ref.isScScratch = false}
    {hsrc : (srcM : Memref sig .tc .hbm S4x3x1024 .bf16).view.WordExact} {hdst : (dstM : Memref sig .tc .vmem S4x3x1024 .bf16).view.WordExact}
    {hsem : DmaTarget.Typed .hbm (.dma cc0_scratch1.sem) (.remote (Dev.tc n : Thread nD τ) (dstM : Memref sig .tc .vmem S4x3x1024 .bf16) (.dma cc0_scratch0.sem) hsc)}
    {α : Type} {Q : α → sProp 𝕄} {k : PUnit → Prog (TpuEff nD τ sig (Elt F) Λ₀ .tc) α}
    (g : Buf (Elt F) ((right c : Thread nD τ).loc cc0_stg0_0)) (W : Waits sig Unit) :
    iprop(cellInv exG (plan m) (κ (cell .send c)) (cell .send c) ∗ cellInv exG (plan m) (κ (cell .recv (right c))) (cell .recv (right c))
        ∗ outgoing m c ∗ landing (right c) g ∗ owes (c : Thread nD τ) (debtRows c) W
        ∗ dutyTok exG (cell .send c) 0 false ∗ reached exG (cell .send c) 0
        ∗ dutyTok exG (cell .recv (right c)) 0 false ∗ reached exG (cell .recv (right c)) 0)
      ⊢ iprop(((cred (tallyAt (cell .send c) () rowsCredit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma cc0_scratch0.sem) hsc) (.dma cc0_scratch1.sem) hsrc hdst hsem) k) Q) := by
  subst hn
  unfold outgoing landing
  exact Rounds.wp_send_pointsTo 𝒱₀ exG (plan m) (c : Thread nD τ) none
    (c' := (right c : Thread nD τ)) (src := srcM) (dst := dstM) (sS := Port.sem .send) (sem := Port.sem .recv) (q := fullShare) (fs := sent m c)
    (κ₁ := κ (cell .send c)) (κ₂ := κ (cell .recv (right c)))
    (r₁ := 0) (r₂ := 0) (d₁ := false) (d₂ := false) (fd := g)
    (due_mem m .send c (false_due _)) (due_mem m .recv (right c) (false_due _))
    () () rowsCredit rfl (plan_amount m .send c false) (plan_amount m .recv (right c) false) 0 (by rw [zero_add]) (W := W)
    (by rw [plan_payload]; exact BI.Entails.refl _)
    (by rw [plan_payload]
        show _ ⊢ landing (right c) (landed m (right c))
        unfold landing landed
        rw [left_right]
        exact Entails.of_eq (congrArg _ (overwrite g (sent m c))))

/-- What the body of the first kernel starts from on device `c`. -/
def haloPre (κ : GSem nD τ sig → ℕ) (W : Waits sig Unit) (c : Dev nD) : sProp 𝕄 :=
  iprop(inUse m κ c ∗ cred (tallyAt (cell .bar c) () 2) ∗ cred (tallyAt (cell .recv c) () rowsCredit) ∗ levAts levels level
    ∗ (∃ f, landing c f) ∗ outgoing m c ∗ owes (c : Thread nD τ) (debt c) W)

/-- What it ends with. -/
def haloPost (c : Dev nD) : sProp 𝕄 :=
  iprop(semVal (cell .bar c) 0 ∗ (semVal (cell .send c) 0 ∗ semVal (cell .recv c) 0) ∗ landing c (haloAt m c) ∗ outgoing m c
    ∗ ∃ W', owes (c : Thread nD τ) 0 W')

set_option maxHeartbeats 1600000 in
/-- The body's run on any device. -/
theorem halo_run (κ : GSem nD τ sig → ℕ) (W : Waits sig Unit) (c : Dev nD) (K : PUnit → sProp 𝕄) :
    iprop(haloPre m κ W c ∗ (haloPost m c -∗ K ⟨⟩))
      ⊢ wp frame (wpE (defs₀ (F := F)) 𝒱₀ c none) Set.univ
          (cc0__halo_body srcM (Memref.isWhole_whole _) dstM (Memref.isWhole_whole _) cc0_scratch0 cc0_scratch1) K := by
  simp only [cc0__halo_body_eq_skeleton]; unfold cc0__halo_body_skel
  simp only [semSignalWord, semWaitWord, Prog.lift, Prog.bind_op, Prog.bind_ret, Prog.pure_eq_ret, wp_deviceId]
  simp only [sig1_left c, sig2_right c]
  unfold haloPre inUse known payRights
  iintro ⟨⟨⟨⟨⟨#IB, #IS, #IR⟩, ⟨#IBl, #IBr, #IRr⟩, #rBl, #rBr⟩, ⟨aB, aS, aR⟩, ⟨#rS, #rR⟩, dBl, dBr, dRr, dS⟩, cB, cR, #Hlev, ⟨%f, Hland⟩, Hsrc, HO⟩, HK⟩
  -- to the left: this device's landing buffer may be written now
  iapply (Rounds.wp_signal 𝒱₀ exG (plan m) (c : Thread nD τ) none (dst := (left c : Thread nD τ)) (κ := κ (cell .bar (left c)))
      (d := true) (due_mem m .bar (left c) (Finset.mem_univ _)) ((plan_amount m .bar (left c) true).trans (by decide)) () (debtMid c) rfl)
    $$ [HO dBl Hland]
  · isplitr; · iexact IBl
    isplitl [HO]; · iexact HO
    isplitl [dBl]; · iexact dBl
    isplitl [Hland]
    · iapply (pay_left m c)
      isplitl [Hland]; · iexists f; iexact Hland
      iexact rR
    iexact rBl
  iintro HO
  -- to the right: nothing to hand over
  iapply (Rounds.wp_signal 𝒱₀ exG (plan m) (c : Thread nD τ) none (dst := (right c : Thread nD τ)) (κ := κ (cell .bar (right c)))
      (d := false) (due_mem m .bar (right c) (Finset.mem_univ _)) ((plan_amount m .bar (right c) false).trans (by decide)) () (debtRows c) rfl)
    $$ [HO dBr]
  · isplitr; · iexact IBr
    isplitl [HO]; · iexact HO
    isplitl [dBr]; · iexact dBr
    isplitr
    · iapply (pay_right m c); iempintro
    iexact rBr
  iintro HO
  -- both neighbours have entered: the right one's landing buffer comes with it
  iapply (Rounds.wp_wait_rest_token 𝒱₀ exG (plan m) (c : Thread nD τ) none (κ := κ (cell .bar c))
      (wpE_semWait_eq 𝒱₀ (c : Thread nD τ) none Set.univ) (Set.mem_univ _) () (O := debtRows c) (W := W) (R := 0) (m := 0) (T := ∅)
      (by rw [expect_bar]; decide)) $$ [cB HO aB]
  · isplitr; · iexact IB
    isplitl [cB]; · iexact cB
    isplitl [HO]; · iexact HO
    isplitr; · iapply (may_wait_bar c); iexact Hlev
    iexact aB
  iintro ⟨HO, aB, -, Hgot⟩
  ihave Hg := (Entails.of_eq (handover_bar m c)) $$ Hgot
  ihave Hg' := (show iprop(Port.bar.gives m c false ∗ Port.bar.gives m c true)
      ⊢ iprop((emp : sProp 𝕄) ∗ ((∃ f, landing (right c) f) ∗ reached exG (cell .recv (right c)) 0)) from BI.Entails.refl _) $$ Hg
  icases Hg' with ⟨-, ⟨%g, Hr⟩, #rRr⟩
  -- the copy
  iapply (wp_copy m κ c _ (copy_right c) g (insert (SemLoc.reg barS, ()) W)) $$ [Hsrc Hr HO dS dRr]
  · isplitr; · iexact IS
    isplitr; · iexact IRr
    isplitl [Hsrc]; · iexact Hsrc
    isplitl [Hr]; · iexact Hr
    isplitl [HO]; · iexact HO
    isplitl [dS]; · iexact dS
    isplitr; · iexact rS
    isplitl [dRr]; · iexact dRr
    iexact rRr
  iintro ⟨cS, HO⟩
  -- the outgoing rows are back
  iapply (Rounds.wp_wait_rest_token 𝒱₀ exG (plan m) (c : Thread nD τ) none (κ := κ (cell .send c))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [cS HO aS]
  · isplitr; · iexact IS
    isplitl [cS]; · iexact cS
    isplitl [HO]; · iexact HO
    isplitr; · rw [MayWait_zero]; iempintro
    iexact aS
  iintro ⟨HO, aS, -, Hgot⟩
  ihave Hsrc := (Entails.of_eq (handover_send m c)) $$ Hgot
  -- the left neighbour's rows have landed
  iapply (Rounds.wp_wait_rest_token 𝒱₀ exG (plan m) (c : Thread nD τ) none (κ := κ (cell .recv c))
      (wpE_waitDma2_eq 𝒱₀ (c : Thread nD τ) none Set.univ) (Set.mem_univ _) () (O := 0)
      (W := insert (SemLoc.dma cc0_scratch0.sem, ()) (insert (SemLoc.reg barS, ()) W)) (R := 0) (m := 0) (T := ∅)
      (by rw [Nat.zero_add, expect_recv])) $$ [cR HO aR]
  · isplitr; · iexact IR
    isplitl [cR]; · iexact cR
    isplitl [HO]; · iexact HO
    isplitr; · rw [MayWait_zero]; iempintro
    iexact aR
  iintro ⟨HO, aR, -, Hgot⟩
  ihave Hland := (Entails.of_eq (handover_recv m c)) $$ Hgot
  -- the three counters are done with
  imod (retire m (κ (cell .send c)) (cell .send c)) $$ [aS] with zS
  · isplitr; · iexact IS
    iexact aS
  imod (retire m (κ (cell .recv c)) (cell .recv c)) $$ [aR] with zR
  · isplitr; · iexact IR
    iexact aR
  imod (retire m (κ (cell .bar c)) (cell .bar c)) $$ [aB] with zB
  · isplitr; · iexact IB
    iexact aB
  by_cases h : c.val = 0
  · -- device 0 puts zeros there
    rw [dif_pos ((first_iff c).mpr h)]
    simp only [Prog.bind_op, Prog.bind_ret]
    ihave Hland := (Entails.of_eq (landing_whole c (landed m c))) $$ Hland
    iapply (wp_load 𝒱₀ (c : Thread nD τ) none Set.univ (m := dstM) (Finset.subset_univ _)) $$ Hland; iintro Hland
    iapply (wp_store 𝒱₀ (c : Thread nD τ) none Set.univ (m := dstM) (r := allRows) (Mk := Finset.univ) (Finset.subset_univ _)) $$ Hland; iintro Hland
    rw [stored, wp_ret]; imodintro
    iapply HK
    unfold haloPost haloAt
    rw [if_pos h, landing_whole]
    isplitl [zB]; · iexact zB
    isplitl [zS zR]; · isplitl [zS] <;> iassumption
    isplitl [Hland]; · iexact Hland
    isplitl [Hsrc]; · iexact Hsrc
    iexists _; iexact HO
  · rw [dif_neg (fun e => h ((first_iff c).mp e))]
    simp only [Prog.bind_ret]
    rw [wp_ret]; imodintro
    iapply HK
    unfold haloPost haloAt
    rw [if_neg h]
    isplitl [zB]; · iexact zB
    isplitl [zS zR]; · isplitl [zS] <;> iassumption
    isplitl [Hland]; · iexact Hland
    isplitl [Hsrc]; · iexact Hsrc
    iexists _; iexact HO

end Halo

end
-- ==== Proof.ConvBody.lean ====
/-
  The second kernel's body: four chunks of 512 rows, each convolved with the three rows before it and passed through the
  gate, and stored in its place.

  The body is run once, on any buffers of the four shapes. What it leaves in the result's block does not depend on what
  the block held before.
-/
module

public import proofs.«01_k».proof.Proof.HaloBody
public import Idealize.ShloMosaic.Lib.Writes
public import Idealize.ShloMosaic.Lib.Pipeline.FrameBody

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ Ghost ℕ

/-- Rows 0 to 511 of a block, -/
abbrev chunk0 : Rect S1x2048x1024 := Rect.unit (s := S1x2048x1024) ![0, 0, 0] S1x512x1024.size inb_S1x2048x1024_S1x512x1024_0_0_0
/-- rows 512 to 1023, -/
abbrev chunk1 : Rect S1x2048x1024 := Rect.unit (s := S1x2048x1024) ![0, 512, 0] S1x512x1024.size inb_S1x2048x1024_S1x512x1024_0_512_0
/-- rows 1024 to 1535, -/
abbrev chunk2 : Rect S1x2048x1024 := Rect.unit (s := S1x2048x1024) ![0, 1024, 0] S1x512x1024.size inb_S1x2048x1024_S1x512x1024_0_1024_0
/-- rows 1536 to 2047. -/
abbrev chunk3 : Rect S1x2048x1024 := Rect.unit (s := S1x2048x1024) ![0, 1536, 0] S1x512x1024.size inb_S1x2048x1024_S1x512x1024_0_1536_0
/-- The three rows before the second chunk, -/
abbrev tail1 : Rect S1x2048x1024 := Rect.unit (s := S1x2048x1024) ![0, 509, 0] S1x3x1024.size inb_S1x2048x1024_S1x3x1024_0_509_0
/-- before the third, -/
abbrev tail2 : Rect S1x2048x1024 := Rect.unit (s := S1x2048x1024) ![0, 1021, 0] S1x3x1024.size inb_S1x2048x1024_S1x3x1024_0_1021_0
/-- and before the last. -/
abbrev tail3 : Rect S1x2048x1024 := Rect.unit (s := S1x2048x1024) ![0, 1533, 0] S1x3x1024.size inb_S1x2048x1024_S1x3x1024_0_1533_0

/-- The four stores of the body, the last one first: chunk `n` is computed from the taps `k`, the three rows before the
    chunk and the chunk itself. Before the first chunk stand the halo rows `h`. -/
def stores (k : S4x1024.Idx → Elt F .bf16) (h : S1x3x1024.Idx → Elt F .bf16) (x : S1x2048x1024.Idx → Elt F .bf16) :
    List (View.Piece (Elt F) S1x2048x1024 .bf16) :=
  [⟨chunk3, k1_pay3 k (View.ld x tail3) (View.ld x chunk3)⟩, ⟨chunk2, k1_pay3 k (View.ld x tail2) (View.ld x chunk2)⟩,
    ⟨chunk1, k1_pay3 k (View.ld x tail1) (View.ld x chunk1)⟩, ⟨chunk0, k1_pay3 k h (View.ld x chunk0)⟩]

/-- Every row of a block lies in one of the four chunks. -/
theorem stores_cover (k : S4x1024.Idx → Elt F .bf16) (h : S1x3x1024.Idx → Elt F .bf16) (x : S1x2048x1024.Idx → Elt F .bf16)
    (y : S1x2048x1024.Idx) : ∃ p ∈ stores k h x, y ∈ p.1.set := by
  have b0 : (y 0).val < 1 := (y 0).isLt
  have b1 : (y 1).val < 2048 := (y 1).isLt
  have b2 : (y 2).val < 1024 := (y 2).isLt
  have inside : ∀ n (hn : ∀ a, (![0, n, 0] : Fin 3 → Nat) a + S1x512x1024.size a ≤ S1x2048x1024.size a), n ≤ (y 1).val → (y 1).val < n + 512 →
      y ∈ (Rect.unit (s := S1x2048x1024) ![0, n, 0] S1x512x1024.size hn).set := fun n hn hlo hhi =>
    Rect.mem_set_unit.mpr fun a => match a with
      | ⟨0, _⟩ => ⟨Nat.zero_le _, by show (y 0).val < 0 + 1; omega⟩
      | ⟨1, _⟩ => ⟨hlo, hhi⟩
      | ⟨2, _⟩ => ⟨Nat.zero_le _, by show (y 2).val < 0 + 1024; omega⟩
  unfold stores
  by_cases h3 : 1536 ≤ (y 1).val
  · exact ⟨_, List.mem_cons_self, inside 1536 inb_S1x2048x1024_S1x512x1024_0_1536_0 h3 (by omega)⟩
  by_cases h2 : 1024 ≤ (y 1).val
  · exact ⟨_, List.mem_cons_of_mem _ List.mem_cons_self, inside 1024 inb_S1x2048x1024_S1x512x1024_0_1024_0 h2 (by omega)⟩
  by_cases h1 : 512 ≤ (y 1).val
  · exact ⟨_, List.mem_cons_of_mem _ (List.mem_cons_of_mem _ List.mem_cons_self), inside 512 inb_S1x2048x1024_S1x512x1024_0_512_0 h1 (by omega)⟩
  · exact ⟨_, List.mem_cons_of_mem _ (List.mem_cons_of_mem _ (List.mem_cons_of_mem _ List.mem_cons_self)), inside 0 inb_S1x2048x1024_S1x512x1024_0_0_0 (Nat.zero_le _) (by omega)⟩

/-- The block that the body leaves. -/
def convBlock (k : S4x1024.Idx → Elt F .bf16) (h : S1x3x1024.Idx → Elt F .bf16) (x : S1x2048x1024.Idx → Elt F .bf16) :
    S1x2048x1024.Idx → Elt F .bf16 :=
  (Memref.whole cc1_stg3_0 : Memref sig .tc .vmem S1x2048x1024 .bf16).view.read (Elt F)
    ((Memref.whole cc1_stg3_0 : Memref sig .tc .vmem S1x2048x1024 .bf16).view.writes (Elt F)
      (fun _ => (Scalar.ofBits .bf16 0x0000#16 : F .bf16)) (stores k h x))

/-- The offset of a load of a whole rank-two buffer. -/
theorem flat : (![0, 0] : Fin 2 → Nat) = fun _ => 0 := funext fun a => by fin_cases a <;> rfl

/-- A load of all of the halo or of all of the taps reads what is there. -/
theorem ld_all {s : Shape} {off : Fin s.rank → Nat} (h : off = fun _ => 0) (inb) (X : s.Idx → Elt F .bf16) :
    View.ld X (Rect.unit (s := s) off s.size inb) = X := by
  subst h; exact funext fun x => congrArg X (funext fun a => Fin.ext (by simp [LoadRect.idx]))

set_option maxHeartbeats 1600000 in
/-- The body's run: the three operands are read and stay, the result's block ends as `convBlock`. -/
theorem conv_run (c : Dev nD) (i : grid1.Coords)
    (a1 : Memref sig .tc .vmem S1x2048x1024 .bf16) (h1 : a1.IsWhole) (a2 : Memref sig .tc .vmem S1x3x1024 .bf16) (h2 : a2.IsWhole)
    (a3 : Memref sig .tc .vmem S4x1024 .bf16) (h3 : a3.IsWhole) (a4 : Memref sig .tc .vmem S1x2048x1024 .bf16) (h4 : a4.IsWhole)
    (x : S1x2048x1024.Idx → Elt F .bf16) (h : S1x3x1024.Idx → Elt F .bf16) (k : S4x1024.Idx → Elt F .bf16)
    (Q : PUnit → sProp 𝕄) :
    iprop((owns (c : Thread nD τ) a1 fullShare x ∗ owns (c : Thread nD τ) a2 fullShare h ∗ owns (c : Thread nD τ) a3 fullShare k
          ∗ ∃ y, owns (c : Thread nD τ) a4 fullShare y)
        ∗ ((owns (c : Thread nD τ) a1 fullShare x ∗ owns (c : Thread nD τ) a2 fullShare h ∗ owns (c : Thread nD τ) a3 fullShare k
          ∗ owns (c : Thread nD τ) a4 fullShare (convBlock k h x)) -∗ Q ⟨⟩))
      ⊢ wp frame (wpE (defs₀ (F := F)) 𝒱₀ (c : Thread nD τ) none) Set.univ (cc1__conv_body i a1 h1 a2 h2 a3 h3 a4 h4) Q := by
  simp only [cc1__conv_body_eq_skeleton]; unfold cc1__conv_body_skel
  simp only [k1_part1_eq_skeleton, k1_part2_eq_skeleton, k1_part3_eq_skeleton]
  unfold k1_part1_skel k1_part2_skel k1_part3_skel
  simp only [Prog.lift, Prog.bind_op, Prog.bind_ret, Prog.pure_eq_ret]
  unfold owns
  iintro ⟨⟨⟨%f1, %e1, H1⟩, ⟨%f2, %e2, H2⟩, ⟨%f3, %e3, H3⟩, ⟨%y, %f4, -, H4⟩⟩, HQ⟩
  subst e1 e2 e3
  iapply (wp_load 𝒱₀ (c : Thread nD τ) none Set.univ (m := a3) (View.setOn_subset_set _ _)) $$ H3; iintro H3
  iapply (wp_load 𝒱₀ (c : Thread nD τ) none Set.univ (m := a2) (View.setOn_subset_set _ _)) $$ H2; iintro H2
  iapply (wp_load 𝒱₀ (c : Thread nD τ) none Set.univ (m := a1) (View.setOn_subset_set _ _)) $$ H1; iintro H1
  iapply (wp_load 𝒱₀ (c : Thread nD τ) none Set.univ (m := a4) (View.setOn_subset_set _ _)) $$ H4; iintro H4
  iapply (wp_store_writes₀ 𝒱₀ (c : Thread nD τ) none Set.univ (m := a4) (View.set_slice_subset _ _)) $$ H4; iintro H4
  iapply (wp_load 𝒱₀ (c : Thread nD τ) none Set.univ (m := a1) (View.setOn_subset_set _ _)) $$ H1; iintro H1
  iapply (wp_load 𝒱₀ (c : Thread nD τ) none Set.univ (m := a1) (View.setOn_subset_set _ _)) $$ H1; iintro H1
  iapply (wp_load 𝒱₀ (c : Thread nD τ) none Set.univ (m := a4) (View.setOn_subset_set _ _)) $$ H4; iintro H4
  iapply (wp_store_writes 𝒱₀ (c : Thread nD τ) none Set.univ (m := a4) (View.set_slice_subset _ _)) $$ H4; iintro H4
  iapply (wp_load 𝒱₀ (c : Thread nD τ) none Set.univ (m := a1) (View.setOn_subset_set _ _)) $$ H1; iintro H1
  iapply (wp_load 𝒱₀ (c : Thread nD τ) none Set.univ (m := a1) (View.setOn_subset_set _ _)) $$ H1; iintro H1
  iapply (wp_load 𝒱₀ (c : Thread nD τ) none Set.univ (m := a4) (View.setOn_subset_set _ _)) $$ H4; iintro H4
  iapply (wp_store_writes 𝒱₀ (c : Thread nD τ) none Set.univ (m := a4) (View.set_slice_subset _ _)) $$ H4; iintro H4
  iapply (wp_load 𝒱₀ (c : Thread nD τ) none Set.univ (m := a1) (View.setOn_subset_set _ _)) $$ H1; iintro H1
  iapply (wp_load 𝒱₀ (c : Thread nD τ) none Set.univ (m := a1) (View.setOn_subset_set _ _)) $$ H1; iintro H1
  iapply (wp_load 𝒱₀ (c : Thread nD τ) none Set.univ (m := a4) (View.setOn_subset_set _ _)) $$ H4; iintro H4
  iapply (wp_store_writes 𝒱₀ (c : Thread nD τ) none Set.univ (m := a4) (View.set_slice_subset _ _)) $$ H4; iintro H4
  rw [wp_ret]; imodintro
  iapply HQ
  isplitl [H1]
  · iexists f1; isplitr; · (ipureintro; rfl)
    iexact H1
  isplitl [H2]
  · iexists f2; isplitr; · (ipureintro; rfl)
    iexact H2
  isplitl [H3]
  · iexists f3; isplitr; · (ipureintro; rfl)
    iexact H3
  iexists a4.view.writes (Elt F) f4 (stores (a3.view.read (Elt F) f3) (a2.view.read (Elt F) f2) (a1.view.read (Elt F) f1))
  isplitr
  · ipureintro
    exact View.read_writes_of_cover _ _ _ _ _ (stores_cover _ _ _)
  have e3 : View.readAt (Elt F) a3.view (Rect.unit (s := S4x1024) ![0, 0] S4x1024.size inb_S4x1024_S4x1024_0_0).toLoadRect f3
      = a3.view.read (Elt F) f3 := ld_all flat _ _
  have e2 : View.readAt (Elt F) a2.view (Rect.unit (s := S1x3x1024) ![0, 0, 0] S1x3x1024.size inb_S1x3x1024_S1x3x1024_0_0_0).toLoadRect f2
      = a2.view.read (Elt F) f2 := ld_all corner _ _
  rw [← e3, ← e2]
  iexact H4

end Halo

end
-- ==== Proof.HaloRegion.lean ====
/-
  The first kernel as one segment of the program: its proof data, the body's obligation, and the record that takes a
  device from the host's slice to the halo written back.
-/
module

public import proofs.«01_k».proof.Proof.HaloBody
public import proofs.«01_k».proof.Proof.Gen.KernelIdeal.Regions
public import Idealize.ShloMosaic.Lib.Pipeline.RegionTalk
public import Idealize.ShloMosaic.Lib.Pipeline.RegionArraysS
public import Idealize.ShloMosaic.Lib.Pipeline.TalkSched

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ Ghost ℕ

variable (m : (ℓ : Loc nD τ sig) → Buf (Elt F) ℓ)

/-- The buffers no window of the first kernel stages, and the device's generator register, at whatever they hold. -/
def aside (c : Dev nD) : sProp 𝕄 := iprop(Pipeline.scopedRest spec0 c ∗ ∃ r, prngReg c r)

/-- The first kernel's proof data: its one point takes a device that owes two signals and three rows to one that owes
    nothing and whose counters are all back at zero. -/
def haloDat (c : Dev nD) : Dat τ (Elt F) Unit ℕ Ghost ℕ cfg0 c where
  A w := V1 m c (Proc.devRef .tc (Pipeline.arrRef spec0 w))
  after w _ := match w with | 0 => haloAt m c
  Φ t := match t with
    | ⟨0, _⟩ => iprop(entered m c ∗ outgoing m c ∗ aside c)
    | ⟨_ + 1, _⟩ => iprop(semVal (cell .bar c) 0 ∗ (semVal (cell .send c) 0 ∗ semVal (cell .recv c) 0) ∗ outgoing m c ∗ aside c)
  q _ := fullShare
  owed t := match t with | ⟨0, _⟩ => debt c | ⟨_ + 1, _⟩ => 0

/-- The rows that the host sliced off are the device's last three. -/
theorem sliced (c : Dev nD) : V1 m c (Proc.devRef .tc main_v1) = sent m c := by
  show StableHlo.after hostOps0 (V0 m c) (Proc.devRef .tc main_v1) = _
  rw [StableHlo.after_cons, StableHlo.after_nil, StableHlo.unary_result]
  rfl

/-- The first kernel's obligation: at its one point, the run of its body. -/
theorem halo_body (c : Dev nD) : BodyObligation (haloDat m c) defs₀ 𝒱₀ () Set.univ := fun t => by
  rw [show t = t0_0 from fin_N0 t, bigSep_W0, bigSep_W0]
  show iprop((entered m c ∗ outgoing m c ∗ aside c) ∗ (haloDat m c).owesAt () t0_0.castSucc
      ∗ ∃ d, owns (c : Thread nD τ) (Memref.whole cc0_stg0_0) fullShare ((haloDat m c).before 0 t0_0 d))
    ⊢ wp frame (wpE defs₀ 𝒱₀ (c : Thread nD τ) none) Set.univ
        (cc0__halo_body srcM (Memref.isWhole_whole _) dstM (Memref.isWhole_whole _) cc0_scratch0 cc0_scratch1)
        fun _ => iprop((semVal (cell .bar c) 0 ∗ (semVal (cell .send c) 0 ∗ semVal (cell .recv c) 0) ∗ outgoing m c ∗ aside c)
          ∗ (haloDat m c).owesAt () t0_0.succ ∗ owns (c : Thread nD τ) (Memref.whole cc0_stg0_0) fullShare (haloAt m c))
  unfold entered owns
  simp only [Memref.view_whole, View.read_whole, View.set_whole]
  iintro ⟨⟨⟨⟨%κ, Hu⟩, Hc1, Hc2, Hlev⟩, Hout, Hx⟩, HO, ⟨%d, %f, -, Hl⟩⟩
  ihave HO' := (TalkSites.owesAt_elim (haloDat m c) () t0_0.castSucc (debt c) rfl) $$ HO
  icases HO' with ⟨%W, HO⟩
  iapply (halo_run m κ W c _)
  isplitl [Hu Hc1 Hc2 Hlev Hout HO Hl]
  · unfold haloPre
    isplitl [Hu]; · iexact Hu
    isplitl [Hc1]; · iexact Hc1
    isplitl [Hc2]; · iexact Hc2
    isplitl [Hlev]; · iexact Hlev
    isplitl [Hl]; · iexists f; rw [landing_whole]; iexact Hl
    isplitl [Hout]; · iexact Hout
    iexact HO
  unfold haloPost
  rw [landing_whole]
  iintro ⟨Hb, Hs, Hl, Hout, ⟨%W', HO⟩⟩
  isplitl [Hb Hs Hout Hx]
  · isplitl [Hb]; · iexact Hb
    isplitl [Hs]; · iexact Hs
    isplitl [Hout] <;> iassumption
  isplitl [HO]; · iapply (TalkSites.owesAt_intro (haloDat m c) () t0_0.succ 0 rfl rfl W'); iexact HO
  iexists haloAt m c
  isplitr; · ipureintro; rfl
  iexact Hl

/-- What the buffers hold once the first kernel is over: the halo's array is written, the others are as before. -/
def V2h (c : Dev nD) : Valuation τ sig (Elt F) := Pipeline.afterRegion (haloDat m c) (V1 m c)

/-- The buffers outside the windows, the outgoing rows among them. -/
abbrev others : Finset (DevRef τ sig) := Pipeline.ucRefs τ sig \ Pipeline.arrRefs spec0
/-- The buffer that the first kernel's copy reads. -/
abbrev outRef : Finset (DevRef τ sig) := {Proc.devRef .tc main_v1}

/-- It is none of the windows' buffers, -/
theorem out_other : (outRef : Finset (DevRef τ sig)) ⊆ others := by decide

/-- so after the kernel it still holds the rows sent. -/
theorem after_out (c : Dev nD) : V2h m c (Proc.devRef .tc main_v1) = sent m c :=
  (Pipeline.afterRegion_off (haloDat m c) (V1 m c) (Pipeline.ucRefs τ sig) _ (out_other (Finset.mem_singleton_self _))).trans (sliced m c)

/-- Holding that one buffer is holding the outgoing rows. -/
theorem held_out (c : Dev nD) (V : Valuation τ sig (Elt F)) (h : V (Proc.devRef .tc main_v1) = sent m c) :
    (StableHlo.held (c.tc : Thread nD τ) outRef V : sProp 𝕄) = outgoing m c := by
  unfold StableHlo.held; rw [BI.bigSep_singleton, outgoing_whole, h]

/-- What a device keeps from the first kernel beside its buffers: its barrier counter, at zero. -/
abbrev rest (c : Dev nD) : sProp 𝕄 := semVal (cell .bar c) 0

end Halo

end
-- ==== Proof.ConvRegion.lean ====
/-
  The second kernel as one segment of the program: its proof data and the body's obligation. Its grid has one point for
  every batch entry, and each point convolves that entry's 2048 rows.
-/
module

public import proofs.«01_k».proof.Proof.ConvBody
public import proofs.«01_k».proof.Proof.HaloRegion

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ Ghost ℕ

variable (m : (ℓ : Loc nD τ sig) → Buf (Elt F) ℓ)

/-- The block of window `w`'s array that point `t` of the second kernel works on. -/
abbrev block (c : Dev nD) (w : Fin cfg1.W) (t : Fin cfg1.N) : ((cfg1.win w).xblock (cfg1.grid.coords t)).Idx → Elt F (cfg1.win w).elt :=
  ((cfg1.win w).blk t).view.read (Elt F) (V2h m c (Proc.devRef .tc (Pipeline.arrRef spec1 w)))

/-- What point `t` leaves in the result's block. -/
def convAt (c : Dev nD) (t : Fin cfg1.N) : S1x2048x1024.Idx → Elt F .bf16 :=
  convBlock (block m c 2 t) (block m c 1 t) (block m c 0 t)

/-- The second kernel's proof data: it reads three windows and leaves in the fourth the convolution of their blocks. -/
def convDat (c : Dev nD) : Dat τ (Elt F) Unit ℕ Ghost ℕ cfg1 c where
  A w := V2h m c (Proc.devRef .tc (Pipeline.arrRef spec1 w))
  after w t := match w with
    | 0 => block m c 0 t
    | 1 => block m c 1 t
    | 2 => block m c 2 t
    | 3 => convAt m c t
  Φ _ := iprop(Pipeline.scopedRest spec1 c ∗ ∃ r, prngReg c r)
  q _ := fullShare
  owed _ := 0

/-- Each of the three windows read holds its block when the body runs. -/
theorem before_x (c : Dev nD) (t : Fin cfg1.N) (d) : (convDat m c).before 0 t d = block m c 0 t :=
  (convDat m c).before_fetched 0 t (fetch1_0 t) d
/-- The halo rows of the batch, -/
theorem before_h (c : Dev nD) (t : Fin cfg1.N) (d) : (convDat m c).before 1 t d = block m c 1 t :=
  (convDat m c).before_fetched 1 t (fetch1_1 t) d
/-- and the taps. -/
theorem before_k (c : Dev nD) (t : Fin cfg1.N) (d) : (convDat m c).before 2 t d = block m c 2 t :=
  (convDat m c).before_in_eq_fetched 2 rfl (fun _ => rfl) (fun _ _ _ => rfl) (fun _ => rfl) t d

/-- After the body they still do, and the fourth holds the convolution. -/
theorem after_x (c : Dev nD) (t : Fin cfg1.N) : (convDat m c).after 0 t = block m c 0 t := rfl
/-- The halo block stays, -/
theorem after_h (c : Dev nD) (t : Fin cfg1.N) : (convDat m c).after 1 t = block m c 1 t := rfl
/-- so do the taps, -/
theorem after_k (c : Dev nD) (t : Fin cfg1.N) : (convDat m c).after 2 t = block m c 2 t := rfl
/-- and the result's block is the convolution. -/
theorem after_y (c : Dev nD) (t : Fin cfg1.N) :
    (convDat m c).after 3 t = convAt m c t := by dsimp only [convDat]

/-- The body's run at a point of the grid, on the staging buffers that are current there; `A` and `B` ride along. -/
theorem conv_point (c : Dev nD) (t : Fin cfg1.N) (A B : sProp 𝕄) (x : S1x2048x1024.Idx → Elt F .bf16) (h : S1x3x1024.Idx → Elt F .bf16)
    (k : S4x1024.Idx → Elt F .bf16) (y : (S1x2048x1024.Idx → Elt F .bf16) → S1x2048x1024.Idx → Elt F .bf16) :
    iprop(A ∗ B ∗ (∃ _d : S1x2048x1024.Idx → Elt F .bf16, owns (c : Thread nD τ) (st1_0 t) fullShare x)
        ∗ (∃ _d : S1x3x1024.Idx → Elt F .bf16, owns (c : Thread nD τ) (st1_1 t) fullShare h)
        ∗ (∃ _d : S4x1024.Idx → Elt F .bf16, owns (c : Thread nD τ) (st1_2 t) fullShare k)
        ∗ (∃ d, owns (c : Thread nD τ) (st1_3 t) fullShare (y d)))
      ⊢ wp frame (wpE defs₀ 𝒱₀ (c : Thread nD τ) none) Set.univ (bodyAt1 t)
        fun _ => iprop(A ∗ B ∗ owns (c : Thread nD τ) (st1_0 t) fullShare x ∗ owns (c : Thread nD τ) (st1_1 t) fullShare h
          ∗ owns (c : Thread nD τ) (st1_2 t) fullShare k ∗ owns (c : Thread nD τ) (st1_3 t) fullShare (convBlock k h x)) := by
  iintro ⟨HA, HB, ⟨%dx, H0⟩, ⟨%dh, H1⟩, ⟨%dk, H2⟩, ⟨%dy, H3⟩⟩
  iapply (conv_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) x h k _)
  isplitl [H0 H1 H2 H3]
  · isplitl [H0]; · iexact H0
    isplitl [H1]; · iexact H1
    isplitl [H2]; · iexact H2
    iexists _; iexact H3
  iintro ⟨H0, H1, H2, H3⟩
  isplitl [HA]; · iexact HA
  isplitl [HB]; · iexact HB
  isplitl [H0]; · iexact H0
  isplitl [H1]; · iexact H1
  isplitl [H2]; · iexact H2
  iexact H3

/-- The second kernel's obligation: at every point, the run of its body. -/
theorem conv_body (c : Dev nD) : BodyObligation (convDat m c) defs₀ 𝒱₀ () Set.univ := fun t => by
  rw [bigSep_W1, bigSep_W1]
  show iprop((convDat m c).Φ t.castSucc ∗ (convDat m c).owesAt () t.castSucc
      ∗ (∃ d, owns (c : Thread nD τ) (st1_0 t) fullShare ((convDat m c).before 0 t d))
      ∗ (∃ d, owns (c : Thread nD τ) (st1_1 t) fullShare ((convDat m c).before 1 t d))
      ∗ (∃ d, owns (c : Thread nD τ) (st1_2 t) fullShare ((convDat m c).before 2 t d))
      ∗ (∃ d, owns (c : Thread nD τ) (st1_3 t) fullShare ((convDat m c).before 3 t d)))
    ⊢ wp frame (wpE defs₀ 𝒱₀ (c : Thread nD τ) none) Set.univ (bodyAt1 t)
        fun _ => iprop((convDat m c).Φ t.succ ∗ (convDat m c).owesAt () t.succ
          ∗ owns (c : Thread nD τ) (st1_0 t) fullShare ((convDat m c).after 0 t) ∗ owns (c : Thread nD τ) (st1_1 t) fullShare ((convDat m c).after 1 t)
          ∗ owns (c : Thread nD τ) (st1_2 t) fullShare ((convDat m c).after 2 t)
          ∗ owns (c : Thread nD τ) (st1_3 t) fullShare ((convDat m c).after 3 t))
  rw [show (convDat m c).owesAt () t.succ = (convDat m c).owesAt () t.castSucc from rfl,
    show (convDat m c).Φ t.succ = (convDat m c).Φ t.castSucc from rfl]
  simp only [before_x, before_h, before_k, after_x, after_h, after_k, after_y]
  exact conv_point c t _ _ (block m c 0 t) (block m c 1 t) (block m c 2 t) ((convDat m c).before 3 t)

end Halo

end
-- ==== Proof.Kernels.lean ====
/-
  Both kernels as records of the run: what each is entered with and what it leaves.
-/
module

public import proofs.«01_k».proof.Proof.ConvRegion

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)

variable {F : FTy → Type} [FloatOps F]

local notation "𝕄" => MT nD τ sig Unit (Elt F) ℕ Ghost ℕ

variable (m : (ℓ : Loc nD τ sig) → Buf (Elt F) ℓ)

/-- The proof data of the two kernels. -/
def kernels : (p : Fin 2) → (c : Dev nD) → Dat τ (Elt F) Unit ℕ Ghost ℕ (cfgs p) c
  | 0 => haloDat m
  | 1 => convDat m

/-- Every window's array is held whole. -/
theorem haloDat_share (c : Dev nD) (w : Fin cfg0.W) : (haloDat m c).share w = fullShare := by
  match w with | 0 => rfl
/-- The second kernel holds its arrays whole. -/
theorem convDat_share (c : Dev nD) (w : Fin cfg1.W) : (convDat m c).share w = fullShare := by
  match w with | 0 => rfl | 1 => rfl | 2 => rfl | 3 => rfl

/-- The second kernel's staging counters have the lowest level. -/
theorem conv_level {c : Dev nD} : ∀ (w : Fin 4) (s : Fin (spec1 w).nbuf),
    level ((c : Thread nD τ), .dma ((spec1 w).sem s)) () ≤ 0 := by
  intro w s
  refine Nat.le_of_eq ?_
  unfold level
  rw [show portOf (.dma ((spec1 w).sem s)) = none from (by decide : ∀ (w : Fin 4) (s : Fin (spec1 w).nbuf), portOf (.dma ((spec1 w).sem s)) = none) w s]

/-- Whatever the first kernel owes is above the level its own staging waits have. -/
theorem halo_high (c : Dev nD) (t : Fin (cfg0.N + 1)) (g : GSem nD τ sig) (u : Unit) (h : 0 < (haloDat m c).owed t g u) :
    u ∈ levels g ∧ 0 < level g u := by
  match t, h with
  | ⟨0, _⟩, h => exact debt_high h
  | ⟨_ + 1, _⟩, h => exact absurd h (Nat.lt_irrefl 0)

/-- What the first kernel starts from, -/
theorem halo_in (c : Dev nD) :
    iprop(Pipeline.scopedRest spec0 c ∗ (∃ r, prngReg c r) ∗ StableHlo.held (c.tc : Thread nD τ) outRef (V1 m c) ∗ entered m c)
      ⊢ (haloDat m c).Φ 0 := by
  rw [held_out m c _ (sliced m c)]
  show _ ⊢ iprop(entered m c ∗ outgoing m c ∗ aside c)
  unfold aside
  iintro ⟨Hs, Hp, Ho, He⟩
  isplitl [He]; · iexact He
  isplitl [Ho]; · iexact Ho
  isplitl [Hs] <;> iassumption

/-- and what it leaves. -/
theorem halo_out (c : Dev nD) :
    (haloDat m c).Φ (Fin.last cfg0.N)
      ⊢ iprop(Pipeline.scopedRest spec0 c ∗ (∃ r, prngReg c r) ∗ StableHlo.held (c.tc : Thread nD τ) outRef (V2h m c)
          ∗ Pipeline.ownSems0 ownSem c ∗ rest c) := by
  rw [held_out m c _ (after_out m c), ownSems_eq]
  show iprop(semVal (cell .bar c) 0 ∗ (semVal (cell .send c) 0 ∗ semVal (cell .recv c) 0) ∗ outgoing m c ∗ aside c) ⊢ _
  unfold aside
  iintro ⟨Hb, Hs, Ho, Hr, Hp⟩
  isplitl [Hr]; · iexact Hr
  isplitl [Hp]; · iexact Hp
  isplitl [Ho]; · iexact Ho
  isplitl [Hs] <;> iassumption

set_option backward.isDefEq.respectTransparency.types false in
/-- The first kernel: entered with the schedule's share from launch and the debt that goes with it, left with neither. -/
def reg0 : RegionSeg (pcfgs (F := F)) adm (kernels m) () defs₀ 𝒱₀ levels level 0 :=
  RegionSeg.ofTalk (pcfgs (F := F)) adm (kernels m) () defs₀ 𝒱₀ levels level 0 ownSem (by decide : Pipeline.OwnSemFacts spec0 ownSem)
    outRef others out_other launch0.toP rfl (fun c => (halo_body m c).loose)
    (fun _ => 0) debt (fun c => (zero_add _).symm) (fun _ => rfl) (fun _ => rfl) (fun c w => haloDat_share m c w)
    (V1 m) (V2h m) (fun c b hb => Pipeline.afterRegion_off (haloDat m c) (V1 m c) (Pipeline.ucRefs τ sig) b (Finset.sdiff_subset hb))
    (atLaunch m) rest (entered m) rest (enter m) (halo_in m) (halo_out m)
    (fun c => by iintro H; imodintro; iexact H)
    (fun _ => 0)
    ⟨fun c w s => mem_levels c _, fun c w s => Nat.le_of_eq (by fin_cases w; fin_cases s; rfl), fun c t g i h => halo_high m c t g i h⟩
    (fun _ => iprop(emp))
    (fun _ _ => rfl)
    (fun c w => (Pipeline.afterRegion_arr (haloDat m c) (V1 m c) winFacts0.arr_inj w).symm)

/-- What the buffers hold at the end: the result's array is written, the others are as after the first kernel. -/
def V3h (c : Dev nD) : Valuation τ sig (Elt F) := Pipeline.afterRegion (convDat m c) (V2h m c)

set_option backward.isDefEq.respectTransparency.types false in
/-- The second kernel: nothing is owed while it runs, and its windows take all it touches. -/
def reg1 : RegionSeg (pcfgs (F := F)) adm (kernels m) () defs₀ 𝒱₀ levels level 1 :=
  RegionSeg.ofHeldIn (pcfgs (F := F)) adm (kernels m) () defs₀ 𝒱₀ levels level 1 (fun _ => 0)
    (Pipeline.ucRefs τ sig) (fun c => iprop(∃ r, prngReg c r)) (fun c => iprop(∃ r, prngReg c r)) launch1.toP rfl
    (fun c => (conv_body m c).loose) (fun _ _ => rfl) (fun _ => rfl) (fun c w => convDat_share m c w)
    (fun _ => .rfl) (fun _ => .rfl)
    (fun _ => 0)
    ⟨fun c w s => mem_levels c _, fun c w s => conv_level w s, fun c g i h => absurd h (Nat.lt_irrefl 0)⟩ rest (V2h m) (fun _ _ => rfl)

end Halo

end
-- ==== Proof.Start.lean ====
/-
  The launch: the exchange's ghost state is made, every device gets its part of it, and the credit for the waits is
  matched with what the neighbours owe.
-/
module

public import proofs.«01_k».proof.Proof.Kernels

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)

variable {F : FTy → Type} [FloatOps F]

local notation "𝕄" => MT nD τ sig Unit (Elt F) ℕ Ghost ℕ

variable (m : (ℓ : Loc nD τ sig) → Buf (Elt F) ℓ)

/-! ## The counters and the duties -/

/-- The barrier counters. -/
def barAt : Dev nD ↪ GSem nD τ sig := ⟨cell .bar, fun _ _ h => cell_dev h⟩
/-- A device's send counter or its receive counter. -/
def ownPort : Fin 2 → Port := fun | 0 => .send | 1 => .recv
/-- The send and the receive counters. -/
def ownAt : Dev nD × Fin 2 ↪ GSem nD τ sig :=
  ⟨fun x => cell (ownPort x.2) x.1, fun _ _ h =>
    Prod.ext (cell_dev h) ((by decide : Function.Injective ownPort) (cell_port h))⟩
/-- The four duties at a device's counters. -/
def ask : Fin 4 → Port × Bool := fun | 0 => (.bar, true) | 1 => (.bar, false) | 2 => (.recv, false) | 3 => (.send, false)

/-- The counters of the barrier, -/
abbrev bars : Finset (GSem nD τ sig) := Finset.univ.map barAt
/-- and those of the copies. -/
abbrev owns2 : Finset (GSem nD τ sig) := Finset.univ.map ownAt
/-- All the duties, each with its counter and its round. -/
def asks : Finset (GSem nD τ sig × ℕ × Bool) :=
  Finset.univ.map ⟨fun x : Dev nD × Fin 4 => (cell (ask x.2).1 x.1, 0, (ask x.2).2), fun _ _ h =>
    Prod.ext (cell_dev (congrArg Prod.fst h))
      ((by decide : Function.Injective ask) (Prod.ext (cell_port (congrArg Prod.fst h)) (congrArg (fun z => z.2.2) h)))⟩

/-- No counter is both. -/
theorem bars_apart : Disjoint bars owns2 := Finset.disjoint_left.mpr fun _ hb ho => by
  obtain ⟨c, -, rfl⟩ := Finset.mem_map.mp hb
  obtain ⟨x, -, h⟩ := Finset.mem_map.mp ho
  exact (by decide : ∀ k, ownPort k ≠ .bar) x.2 (cell_port h)

/-- Every counter of the exchange is among them. -/
theorem cell_in (p : Port) (c : Dev nD) : cell p c ∈ bars ∪ owns2 := by
  cases p
  · exact Finset.mem_union_left _ (Finset.mem_map_of_mem barAt (Finset.mem_univ c))
  · exact Finset.mem_union_right _ (Finset.mem_map_of_mem ownAt (Finset.mem_univ (c, (0 : Fin 2))))
  · exact Finset.mem_union_right _ (Finset.mem_map_of_mem ownAt (Finset.mem_univ (c, (1 : Fin 2))))

/-- The ghost element that the run starts from: the staging pipelines' and the exchange's. -/
def seed : Ghost :=
  (initOf (Pipeline.cells cfgs cellOf_inj) (Pipeline.launchToks cfgs cellOf_inj), launchOf bars owns2 asks)

/-- The exchange's part of the seed, kept on device 0 until it is dealt. -/
def seedOn (c : Dev nD) : sProp 𝕄 := if c = 0 then BI.own (exG (launchOf bars owns2 asks)) else iprop(emp)

/-- Over all devices together that is the exchange's part of the seed. -/
theorem seedOn_all : bigSep Finset.univ (seedOn (F := F)) = BI.own (exG (launchOf bars owns2 asks)) := by
  rw [bigSep_univ_at _ (0 : Dev nD), bigSep_congr (s := Finset.univ.erase (0 : Dev nD)) (Φ := seedOn) (Ψ := fun _ => (BI.emp : sProp 𝕄))
    fun c hc => if_neg (Finset.ne_of_mem_erase hc), BI.bigSep_emp_const, show seedOn (F := F) 0 = _ from if_pos rfl]
  exact BI.equiv_iff.mp sep_emp

/-- What all devices share: the counters' invariants under common names, and the barriers being in their first round. -/
def shared (κ : GSem nD τ sig → ℕ) : sProp 𝕄 :=
  iprop((bigSep (bars ∪ owns2) fun g => cellInv exG (plan m) (κ g) g) ∗ bigSep bars fun g => reached exG g 0)

instance (κ : GSem nD τ sig → ℕ) : BI.Persistent (shared m κ) := by unfold shared; infer_instance

/-- What is shared has every counter's invariant, -/
theorem shared_inv (κ : GSem nD τ sig → ℕ) (p : Port) (c : Dev nD) : shared m κ ⊢ cellInv exG (plan m) (κ (cell p c)) (cell p c) := by
  unfold shared
  iintro ⟨H, -⟩
  iapply (show (bigSep (bars ∪ owns2) fun g => (cellInv exG (plan m) (κ g) g : sProp 𝕄)) ⊢ cellInv exG (plan m) (κ (cell p c)) (cell p c)
    from bigSep_elim (cell_in p c)) $$ H
/-- and says that every barrier counter has reached its first round. -/
theorem shared_bar (κ : GSem nD τ sig → ℕ) (c : Dev nD) : shared m κ ⊢ reached exG (cell .bar c) 0 := by
  unfold shared
  iintro ⟨-, H⟩
  iapply (show (bigSep bars fun g => (reached exG g 0 : sProp 𝕄)) ⊢ reached exG (cell .bar c) 0
    from bigSep_elim (Finset.mem_map_of_mem barAt (Finset.mem_univ c))) $$ H

/-- What is a device's alone. -/
def mine (c : Dev nD) : sProp 𝕄 :=
  iprop(atPos exG (cell .bar c) 0 ∅ 0 ∗ (openTok exG (cell .send c) ∗ openTok exG (cell .recv c)) ∗ payRights c)

/-- With both, a device has its part of the exchange. -/
theorem dealt (κ : GSem nD τ sig → ℕ) (c : Dev nD) :
    iprop(shared m κ ∗ mine c) ⊢ iprop(∃ κ, known m κ c ∗ atPos exG (cell .bar c) 0 ∅ 0
      ∗ (openTok exG (cell .send c) ∗ openTok exG (cell .recv c)) ∗ payRights c) := by
  unfold mine known
  iintro ⟨#H, Hm⟩
  iexists κ
  isplitr
  · isplitr
    · isplitr; · iapply (shared_inv m κ .bar c); iexact H
      isplitr; · iapply (shared_inv m κ .send c); iexact H
      iapply (shared_inv m κ .recv c); iexact H
    isplitr
    · isplitr; · iapply (shared_inv m κ .bar (left c)); iexact H
      isplitr; · iapply (shared_inv m κ .bar (right c)); iexact H
      iapply (shared_inv m κ .recv (right c)); iexact H
    isplitr; · iapply (shared_bar m κ (left c)); iexact H
    iapply (shared_bar m κ (right c)); iexact H
  iexact Hm

/-- The duties, device by device where they are paid, are the payers' rights: each goes around the ring to its payer. -/
theorem asks_dealt : bigSep asks (fun x => (dutyTok exG x.1 x.2.1 x.2.2 : sProp 𝕄)) ⊢ bigSep Finset.univ fun c : Dev nD => payRights c := by
  unfold asks payRights
  rw [bigSep_map, bigSep_univ_prod, bigSep_congr (Ψ := fun c : Dev nD => iprop(dutyTok exG (cell .bar c) 0 true ∗ dutyTok exG (cell .bar c) 0 false
      ∗ dutyTok exG (cell .recv c) 0 false ∗ (dutyTok exG (cell .send c) 0 false : sProp 𝕄)))
    fun c _ => bigSep_univ_eq_bigSepL [(0 : Fin 4), 1, 2, 3] (by decide) (by decide) _]
  rw [bigSep_sep', bigSep_sep', bigSep_sep', bigSep_sep', bigSep_sep', bigSep_sep',
    bigSep_univ_equiv turn.symm (fun c : Dev nD => (dutyTok exG (cell .bar c) 0 true : sProp 𝕄)),
    bigSep_univ_equiv turn (fun c : Dev nD => (dutyTok exG (cell .bar c) 0 false : sProp 𝕄)),
    bigSep_univ_equiv turn (fun c : Dev nD => (dutyTok exG (cell .recv c) 0 false : sProp 𝕄))]
  exact BI.Entails.refl _

/-! ## The credit -/

/-- One tally read at a counter of the exchange. -/
theorem tally_cell (p q : Port) (c d : Dev nD) (n : ℕ) :
    (tallyAt (cell p d) () n : CellTallies nD τ sig Unit) (cell q c) () = if q = p ∧ c = d then n else 0 := by
  rw [tallyAt_apply]
  by_cases h : q = p ∧ c = d
  · obtain ⟨rfl, rfl⟩ := h; rw [if_pos ⟨rfl, rfl⟩, if_pos ⟨rfl, rfl⟩]
  · rw [if_neg h, if_neg fun e => h ⟨cell_port e.1, cell_dev e.1⟩]

/-- What device `d` owes at a counter of device `c`. -/
theorem debt_at (q : Port) (c d : Dev nD) : debt d (cell q c) ()
    = (if q = .recv ∧ c = right d then rowsCredit else 0) + (if q = .bar ∧ c = right d then 1 else 0) + (if q = .bar ∧ c = left d then 1 else 0) := by
  unfold debt debtMid debtRows
  rw [Pi.add_apply, Pi.add_apply, Finsupp.add_apply, Finsupp.add_apply, tally_cell, tally_cell, tally_cell]

/-- What the four devices owe at a barrier adds up to the two units waited for, -/
theorem owed_bar (c : Dev nD) : (∑ d, debt d (cell .bar c) ()) = 2 := by
  rw [Finset.sum_congr rfl fun d _ => debt_at .bar c d,
    Finset.sum_congr rfl fun d _ => by rw [if_neg (fun h : Port.bar = .recv ∧ c = right d => Port.noConfusion h.1)]]
  exact (by decide : ∀ c : Dev nD, (∑ d : Dev nD, (0 + (if Port.bar = .bar ∧ c = right d then 1 else 0) + (if Port.bar = .bar ∧ c = left d then 1 else 0))) = 2) c

/-- and at a receive counter to the three rows waited for. -/
theorem owed_recv (c : Dev nD) : (∑ d, debt d (cell .recv c) ()) = rowsCredit := by
  rw [Finset.sum_eq_single (left c) (fun d _ hd => ?_) (fun h => absurd (Finset.mem_univ _) h), debt_at, right_left]
  · rw [if_pos ⟨rfl, rfl⟩, if_neg (fun h => Port.noConfusion h.1), if_neg (fun h => Port.noConfusion h.1), Nat.add_zero]
  · rw [debt_at, if_neg (fun h => hd (by rw [h.2, left_right])), if_neg (fun h => Port.noConfusion h.1), if_neg (fun h => Port.noConfusion h.1), Nat.add_zero]

/-- The credit at a counter is what the devices owe there together. -/
theorem credit_at (q : Port) (c : Dev nD) (n : ℕ) (h : (∑ d, debt d (cell q c) ()) = n) :
    tallyOn (cell q c) (launchCredit (Pipeline.owing debt) 0 (cell q c)) = (tallyAt (cell q c) () n : CellTallies nD τ sig Unit) := by
  unfold tallyAt; refine congrArg _ (Finsupp.ext fun u => ?_); cases u
  rw [Pipeline.launchCredit_owing, Finsupp.single_eq_same, h]

/-- The credit a device starts with covers both waits. -/
theorem credits (c : Dev nD) :
    (Pipeline.launchCred debt c : sProp 𝕄) ⊢ iprop(cred (tallyAt (cell .bar c) () 2) ∗ cred (tallyAt (cell .recv c) () rowsCredit)) := by
  unfold Pipeline.launchCred
  rw [bigSep_univ_at _ (Port.sem .bar), credit_at .bar c 2 (owed_bar c), ← credit_at .recv c rowsCredit (owed_recv c)]
  exact sep_mono_right (bigSep_elim (Finset.mem_erase.mpr ⟨fun h => Port.noConfusion (Port.sem_inj h : Port.recv = Port.bar), Finset.mem_univ _⟩))

/-! ## The start -/

/-- The only counter that outlives a kernel is the barrier. -/
theorem outlives : ∀ s : SemLoc sig, s.isScoped .tc = false → s = Port.sem .bar := by decide

/-- The only semaphore outside the scopes is the barrier's. -/
theorem barrier_only (c : Dev nD) : (unscopedSems0 c : sProp 𝕄) = semVal (cell .bar c) 0 := by
  unfold unscopedSems0
  rw [show (Finset.univ.filter fun s : SemLoc sig => ¬ s.isScoped .tc) = {Port.sem .bar} from by decide, BI.bigSep_singleton]

/-- What a device carries up to the first kernel beside its buffers. -/
def carried (c : Dev nD) : sProp 𝕄 := iprop(atLaunch m c ∗ (∃ r, prngReg c r) ∗ ∃ W, owes (c : Thread nD τ) (debt c) W)

/-- What of it comes without the exchange's ghost state. -/
def plain (c : Dev nD) : sProp 𝕄 :=
  iprop((cred (tallyAt (cell .bar c) () 2) ∗ cred (tallyAt (cell .recv c) () rowsCredit)) ∗ (∃ r, prngReg c r) ∗ ∃ W, owes (c : Thread nD τ) (debt c) W)

/-- What is shared and what is a device's own make what it carries. -/
theorem carry (κ : GSem nD τ sig → ℕ) (c : Dev nD) : iprop(shared m κ ∗ (mine c ∗ plain c)) ⊢ carried m c := by
  unfold plain carried atLaunch
  iintro ⟨#H, Hm, Hc, Hp⟩
  isplitl [Hm Hc]
  · isplitl [Hm]
    · iapply (dealt m κ c)
      isplitr; · iexact H
      iexact Hm
    iexact Hc
  iexact Hp

/-- From what the machine hands out at launch, every device gets what it carries. -/
theorem start (ρ : Dev nD → PrngReg) :
    iprop((bigSep Finset.univ fun c : Dev nD => iprop(unscopedSems0 c ∗ owes (c : Thread nD τ) (debt c) ∅ ∗ Pipeline.launchCred debt c
        ∗ prngReg c (ρ c) ∗ seedOn c)) ∗ levAts levels level)
      ⊢ (|={Set.univ}=> bigSep Finset.univ (carried m) : sProp 𝕄) := by
  have split (c : Dev nD) : iprop(unscopedSems0 c ∗ owes (c : Thread nD τ) (debt c) ∅ ∗ Pipeline.launchCred debt c ∗ prngReg c (ρ c) ∗ seedOn c)
      ⊢ (iprop(plain c ∗ (semVal (cell .bar c) 0 ∗ seedOn c)) : sProp 𝕄) := by
    rw [barrier_only]
    unfold plain
    iintro ⟨Hv, HO, Hc, Hp, Hs⟩
    isplitl [HO Hc Hp]
    · isplitl [Hc]; · iapply (credits c) $$ Hc
      isplitl [Hp]; · iexists _; iexact Hp
      iexists ∅; iexact HO
    isplitl [Hv] <;> iassumption
  have atBars (Φ : GSem nD τ sig → sProp 𝕄) : bigSep bars Φ = bigSep Finset.univ fun c : Dev nD => Φ (cell .bar c) :=
    bigSep_map (s := Finset.univ) barAt (Φ := Φ)
  have atOwns : bigSep owns2 (fun g => (openTok exG g : sProp 𝕄))
      = bigSep Finset.univ (fun c : Dev nD => iprop(openTok exG (cell .send c) ∗ openTok exG (cell .recv c))) := by
    rw [bigSep_map, bigSep_univ_prod]
    exact bigSep_congr fun c _ => BI.bigSep_fin_two (fun k : Fin 2 => (openTok exG (cell (ownPort k) c) : sProp 𝕄))
  refine (sep_mono (bigSep_mono fun c _ => split c) .rfl).trans ?_
  rw [bigSep_sep', bigSep_sep', seedOn_all, ← atBars fun g => semVal g 0]
  iintro ⟨⟨Hp, Hv, Hs⟩, -⟩
  imod (Rounds.fund_launch exG (plan m) bars_apart (fun _ _ h => h) asks) $$ [Hv Hs] with ⟨%κ, -, #Hinv, #Hre, Hat, Hop, Htk⟩
  · isplitl [Hv] <;> iassumption
  imodintro
  iapply (bigSep_with_persistent (R := shared m κ) (Φ := fun c => iprop(mine c ∗ plain c)) fun c _ => carry m κ c)
  isplitr
  · unfold shared
    isplitr; · iexact Hinv
    iexact Hre
  rw [bigSep_sep']
  isplitr [Hp]
  · unfold mine
    rw [bigSep_sep', bigSep_sep']
    isplitl [Hat]; · iapply (Entails.of_eq (atBars fun g => atPos exG g 0 ∅ 0)) $$ Hat
    isplitl [Hop]; · iapply (Entails.of_eq atOwns) $$ Hop
    iapply (asks_dealt (F := F)) $$ Htk
  iexact Hp

end Halo

end
-- ==== Proof.Run.lean ====
/-
  The whole run, over any float values: every execution ends, with the arguments as they were, every counter at zero and
  the result's array as the second kernel leaves it.
-/
module

public import proofs.«01_k».proof.Proof.Start

@[expose] public section

noncomputable section

namespace Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg Seg)

variable {F : FTy → Type} [FloatOps F]

local notation "𝕄" => MT nD τ sig Unit (Elt F) ℕ Ghost ℕ

variable (m : (ℓ : Loc nD τ sig) → Buf (Elt F) ℓ)

/-! ## From one segment to the next -/

/-- What rides beside the buffers: before the first kernel what a device carries from launch, after it the register, the
    barrier counter at zero, and no debt. -/
def beside (i : Fin 3) (c : Dev nD) : sProp 𝕄 :=
  if i = 0 then carried m c
  else iprop((∃ W, owes (c : Thread nD τ) (0 : CellTallies nD τ sig Unit) W) ∗ (∃ r, prngReg c r) ∗ rest c)

/-- The windows of both kernels are among the buffers followed: -/
theorem arr0_in : Pipeline.arrRefs spec0 ⊆ Pipeline.ucRefs τ sig := by decide
/-- those of the second one. -/
theorem arr1_in : Pipeline.arrRefs spec1 ⊆ Pipeline.ucRefs τ sig := by decide

/-- The host's slice hands over to the first kernel, -/
theorem to_halo (c : Dev nD) :
    iprop(StableHlo.held (c : Thread nD τ) (Pipeline.ucRefs τ sig) (V1 m c) ∗ beside m 0 c) ⊢ (reg0 m).pre c := by
  show iprop(StableHlo.held (c : Thread nD τ) (Pipeline.ucRefs τ sig) (V1 m c) ∗ carried m c)
    ⊢ iprop(StableHlo.held (c.tc : Thread nD τ) (Pipeline.arrRefs spec0) (V1 m c) ∗ (∃ r, prngReg c r)
      ∗ (StableHlo.held (c.tc : Thread nD τ) others (V1 m c) ∗ emp) ∗ atLaunch m c ∗ ∃ Wd, owes (c : Thread nD τ) (0 + debt c) Wd)
  rw [StableHlo.held_sub_split (c.tc : Thread nD τ) arr0_in (V1 m c), zero_add]
  unfold carried
  iintro ⟨⟨Ha, Ho⟩, HL, Hp, HO⟩
  isplitl [Ha]; · iexact Ha
  isplitl [Hp]; · iexact Hp
  isplitl [Ho]
  · isplitl; · iexact Ho
    iempintro
  isplitl [HL] <;> iassumption

/-- the first kernel to the second, -/
theorem to_conv (c : Dev nD) : (reg0 m).post c ⊢ (reg1 m).pre c := by
  refine BI.Entails.trans ?_ (RegionSeg.ofHeldIn_pre (pcs := pcfgs (F := F)) (p := 1) arr1_in c)
  show iprop(StableHlo.held (c.tc : Thread nD τ) (Pipeline.arrRefs spec0) (V2h m c) ∗ (∃ r, prngReg c r)
      ∗ (StableHlo.held (c.tc : Thread nD τ) others (V2h m c) ∗ emp) ∗ rest c ∗ ∃ Wd, owes (c : Thread nD τ) (0 : CellTallies nD τ sig Unit) Wd)
    ⊢ iprop(StableHlo.held (c.tc : Thread nD τ) (Pipeline.ucRefs τ sig) (V2h m c)
      ∗ ((∃ Wd, owes (c : Thread nD τ) (0 : CellTallies nD τ sig Unit) Wd) ∗ (∃ r, prngReg c r) ∗ rest c))
  rw [StableHlo.held_sub_split (c.tc : Thread nD τ) arr0_in (V2h m c)]
  iintro ⟨Ha, Hp, ⟨Ho, -⟩, Hb, HO⟩
  isplitl [Ha Ho]
  · isplitl [Ha] <;> iassumption
  isplitl [HO]; · iexact HO
  isplitl [Hp] <;> iassumption

/-- and the second kernel leaves every buffer, no debt, and the barrier counter at zero. -/
theorem to_end (c : Dev nD) : (reg1 m).post c
    ⊢ iprop((StableHlo.held (c : Thread nD τ) (Pipeline.ucRefs τ sig) (V3h m c) ∗ rest c)
      ∗ ∃ W, owes (c : Thread nD τ) (0 : CellTallies nD τ sig Unit) W) := by
  refine (RegionSeg.ofHeldIn_post (pcs := pcfgs (F := F)) (p := 1) arr1_in c).trans ?_
  show iprop(StableHlo.held (c.tc : Thread nD τ) (Pipeline.ucRefs τ sig) (V3h m c)
      ∗ ((∃ Wd, owes (c : Thread nD τ) (0 : CellTallies nD τ sig Unit) Wd) ∗ (∃ r, prngReg c r) ∗ rest c)) ⊢ _
  iintro ⟨Hh, HO, -, Hb⟩
  isplitr [HO]
  · isplitl [Hh] <;> iassumption
  iexact HO

/-! ## What the buffers hold in the end -/

/-- The first kernel leaves a buffer other than the halo's array as the host left it. -/
theorem V2h_of (c : Dev nD) (r : Ref sig .tc) (h : r ≠ main_v2) : V2h m c (Proc.devRef .tc r) = V1 m c (Proc.devRef .tc r) :=
  Pipeline.afterRegion_of_not_arr (haloDat m c) (V1 m c) fun w e => h (e.trans (match w with | 0 => rfl))

/-- The second kernel leaves the arguments. -/
theorem kept0 (c : Dev nD) : V3h m c (Proc.devRef .tc main_arg0) = m ((c : Thread nD τ).loc main_arg0) :=
  (Pipeline.afterRegion_keeps (convDat m c) (V2h m c) winFacts1.arr_inj (fun _ => rfl) main_arg0
    ((by decide : ∀ w, Pipeline.arrRef spec1 w = main_arg0 → (win1 w).isOut = false))).trans
    ((V2h_of m c main_arg0 (by decide)).trans (V1_of m c main_arg0 (by decide)))
/-- The second argument is kept as well. -/
theorem kept1 (c : Dev nD) : V3h m c (Proc.devRef .tc main_arg1) = m ((c : Thread nD τ).loc main_arg1) :=
  (Pipeline.afterRegion_keeps (convDat m c) (V2h m c) winFacts1.arr_inj (fun _ => rfl) main_arg1
    ((by decide : ∀ w, Pipeline.arrRef spec1 w = main_arg1 → (win1 w).isOut = false))).trans
    ((V2h_of m c main_arg1 (by decide)).trans (V1_of m c main_arg1 (by decide)))

/-! ## The run -/

set_option backward.isDefEq.respectTransparency.types false in
/-- From any memory with zero counters, every weakly fair execution on the four devices ends. In every final state the
    result's array is as the second kernel leaves it, the arguments are as they were, and all counters are zero. -/
theorem run_main (ρ : Dev nD → PrngReg) :
    θ_run defs (onTc (τ := τ) (main (F := F))) ⟨m, fun _ => 0, ρ⟩ (fun r =>
      (∀ c : Dev nD, r.2.mem ((c.tc : Thread nD τ).loc main_v3) = V3h m c (Proc.devRef .tc main_v3)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  Pipeline.θ_run_regions_kit_sems (pcfgs (F := F)) adm (kernels m) () cellOf_inj pipeG defs₀ 𝒱₀ levels level m ρ main
    [.host (seg0 m 𝒱₀ levels level (beside m)), .region (reg0 m), .region (reg1 m)]
    (fun c Q => by
      rewrite [main_chain c, Seg.run_eq_chain]
      exact .rfl)
    (by simp only [Seg.pipes_host, Seg.pipes_region, Seg.pipes_nil]; decide)
    debt levels_off seedOn seed
    (hu₀ := by
      unfold seed
      iintro H
      ihave H' := (ownU_pair _ _) $$ H
      icases H' with ⟨HP, HX⟩
      imodintro
      rw [seedOn_all]
      isplitl [HP] <;> iassumption)
    (T₀ := fun c => iprop(StableHlo.held (c : Thread nD τ) (Pipeline.ucRefs τ sig) (V0 m c) ∗ beside m 0 c))
    (Tₙ := fun c => iprop(StableHlo.held (c : Thread nD τ) (Pipeline.ucRefs τ sig) (V3h m c) ∗ rest c))
    (hch := ⟨fun _ => .rfl, to_halo m, to_conv m, to_end m⟩)
    (hinit := by
      rw [bigSep_congr (s := (Finset.univ : Finset (Dev nD))) fun c _ => show iprop(unscopedBufs c (fun b => m ((c.tc : Thread nD τ).loc b)) ∗ unscopedSems0 c
          ∗ owes (c.tc : Thread nD τ) (debt c) ∅ ∗ Pipeline.launchCred debt c ∗ prngReg c (ρ c) ∗ seedOn c)
        = (iprop(StableHlo.held (c : Thread nD τ) (Pipeline.ucRefs τ sig) (V0 m c) ∗ (unscopedSems0 c
          ∗ owes (c.tc : Thread nD τ) (debt c) ∅ ∗ Pipeline.launchCred debt c ∗ prngReg c (ρ c) ∗ seedOn c)) : sProp 𝕄) from by
        rw [← Pipeline.unscopedBufs_held (Ix := Unit) (Name := ℕ) (U := Ghost) (Lvl := ℕ) c (V0 m c)]]
      rw [bigSep_sep']
      iintro ⟨⟨Hh, Hr⟩, HL⟩
      imod (start m ρ) $$ [Hr HL] with HE
      · isplitl [Hr] <;> iassumption
      imodintro
      rw [bigSep_sep']
      isplitl [Hh]; · iexact Hh
      iexact HE)
    (QY := fun c s => (s.mem ((c.tc : Thread nD τ).loc main_v3) = V3h m c (Proc.devRef .tc main_v3)
        ∧ s.mem ((c.tc : Thread nD τ).loc main_arg0) = m ((c.tc : Thread nD τ).loc main_arg0)
        ∧ s.mem ((c.tc : Thread nD τ).loc main_arg1) = m ((c.tc : Thread nD τ).loc main_arg1))
      ∧ s.sem (cell .bar c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V3h m c) s') $$ [Hh HSI]
      · isplitl [Hh] <;> iassumption
      icases Hr with ⟨%h, HSI⟩
      imodintro
      isplitr
      · ipureintro
        have at' (r : Ref sig .tc) (hr : Proc.devRef .tc r ∈ Pipeline.ucRefs τ sig) := h (Proc.devRef .tc r) hr
        exact ⟨⟨at' main_v3 (by decide), (at' main_arg0 (by decide)).trans (kept0 m c), (at' main_arg1 (by decide)).trans (kept1 m c)⟩,
          by simpa using hb⟩
      iexact HSI)
    (hQ := fun s h hs => ⟨fun c => (h c).1, sem_eq_zero hs fun c sm hsm => by
      obtain rfl := outlives sm hsm
      exact (h c).2⟩)

end Halo

end
-- ==== Proof.Frames.lean ====
/-
  The frames: both mesh programs from the one run, the reference from its own.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Halo

open Idealize.ShloMosaic Idealize.ShloMosaic.TcCoe Idealize.SL.Sem

section
local instance : Cert.Kernel.Facts := Cert.Kernel.Gen.facts

/-- The two printed programs have the same kernel bodies, -/
theorem same_bodies : Cert.Kernel.defs₀ (F := Bits) = Cert.KernelIdeal.defs₀ (F := Bits) := by
  unfold Cert.Kernel.defs₀ Cert.KernelIdeal.defs₀
  congr 1
  funext p a
  match p, a with
  | 0, (t, s) => rfl
  | 1, (t, s) => rfl
  | ⟨_ + 2, h⟩, _ => exact absurd h (Nat.not_lt.2 (Nat.le_add_left _ _))

/-- and so the same definitions. -/
theorem same_defs : Cert.Kernel.defs (F := Bits) = Cert.KernelIdeal.defs (F := Bits) :=
  congrArg (Pipeline.defs Cert.KernelIdeal.pcfgs) same_bodies

end

/-- The kernel at machine floats: its text is the idealized program's, so its run is that run there. -/
theorem frame_kernel : Cert.quiescent_Kernel (hKernel := Cert.Kernel.Gen.facts) := fun m ρ _ => by
  rw [same_defs]
  exact (θ_run Cert.KernelIdeal.defs _ _).mono (fun _ h => ⟨fun c => (h.1 c).2, h.2⟩) (run_main (F := Bits) m ρ)

/-- The kernel at extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The reference: it names no semaphore, so there is no counter that is not zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

end Halo

end
-- ==== Proof.Formula.lean ====
/-
  What one entry of the result is, as a function of the rows above it: four taps, then the gate. Nothing here knows of
  devices or of buffers.
-/
module

public import Idealize.ShloMosaic.Lib.Pointwise.Tactic
public import Idealize.ShloMosaic.Lib.Pointwise.SelectCore
public import Idealize.ShloMosaic.Lib.Pointwise.Reshape

@[expose] public section

noncomputable section

namespace Halo

open Idealize.ShloMosaic

/-- A column with three rows put before it: rows 0, 1, 2 are `t`, row `n + 3` is row `n` of `x`. Past its end, zero. -/
def padded {N : ℕ} (t : Fin 3 → EReal) (x : Fin N → EReal) (n : ℕ) : EReal :=
  if h : n < 3 then t ⟨n, h⟩ else if h' : n - 3 < N then x ⟨n - 3, h'⟩ else 0

/-- The three rows put before, -/
theorem padded_old {N : ℕ} (t : Fin 3 → EReal) (x : Fin N → EReal) {n : ℕ} (h : n < 3) : padded t x n = t ⟨n, h⟩ := dif_pos h

/-- and the rows after them. -/
theorem padded_new {N : ℕ} (t : Fin 3 → EReal) (x : Fin N → EReal) {n : ℕ} (h : n < N) : padded t x (n + 3) = x ⟨n, h⟩ := by
  unfold padded; rw [dif_neg (by omega), dif_pos (by omega)]; rfl

/-- A piece of a column, with the three rows before it: the padded piece is a stretch of the padded column. -/
theorem padded_piece {N M : ℕ} (t : Fin 3 → EReal) (x : Fin N → EReal) (u : Fin 3 → EReal) (y : Fin M → EReal) (s : ℕ)
    (hu : ∀ i : Fin 3, u i = padded t x (s + i)) (hy : ∀ i : Fin M, y i = padded t x (s + i + 3)) {n : ℕ} (hn : n < M + 3) :
    padded u y n = padded t x (s + n) := by
  by_cases h : n < 3
  · rw [padded_old u y h, hu]
  · obtain ⟨k, rfl⟩ : ∃ k, n = k + 3 := ⟨n - 3, by omega⟩
    rw [padded_new u y (by omega : k < M), hy]
    congr 1

/-- One entry: the taps on row `r` and the three before it (in a padded column row `r` is number `r + 3`), then the gate. -/
def gated (k : Fin 4 → EReal) (p : ℕ → EReal) (r : ℕ) : EReal :=
  (p (r + 3) * k 3 + p r * k 0 + p (r + 1) * k 1 + p (r + 2) * k 2)
    * Ideal.logistic (p (r + 3) * k 3 + p r * k 0 + p (r + 1) * k 1 + p (r + 2) * k 2)

/-- An entry depends on four rows only. -/
theorem gated_congr (k : Fin 4 → EReal) {p q : ℕ → EReal} {r s : ℕ} (h : ∀ i, i < 4 → p (r + i) = q (s + i)) :
    gated k p r = gated k q s := by
  have h0 := h 0 (by omega); have h1 := h 1 (by omega); have h2 := h 2 (by omega); have h3 := h 3 (by omega)
  simp only [Nat.add_zero] at h0
  unfold gated; rw [h0, h1, h2, h3]

/-- An entry depends only on the values of the taps, of the rows before and of the rows. -/
theorem entry_congr {N : ℕ} {k k' : Fin 4 → EReal} {t t' : Fin 3 → EReal} {x x' : Fin N → EReal} (hk : ∀ j, k j = k' j) (ht : ∀ s, t s = t' s)
    (hx : ∀ s, x s = x' s) (r : ℕ) : gated k (padded t x) r = gated k' (padded t' x') r := by
  rw [funext hk, funext ht, funext hx]

/-- The gate written as a quotient. -/
theorem div_gate (a : EReal) : Ideal.div a (1 + Ideal.exp (-a)) = a * Ideal.logistic a := by
  have h : (1 : EReal) + Ideal.exp (-a) ≠ 0 := by
    have e : 0 ≤ Ideal.exp (-a) := by
      generalize -a = b
      induction b with
      | bot => exact le_of_eq rfl
      | top => exact le_top
      | coe r => exact EReal.coe_nonneg.mpr (Real.exp_pos r).le
    exact ne_of_gt (lt_of_lt_of_le zero_lt_one (le_add_of_nonneg_right e))
  unfold Ideal.logistic Ideal.div
  rw [if_neg h, if_neg h, one_mul]

/-- The taps summed in order from zero, then the quotient: the same entry. -/
theorem gated_eq (k : Fin 4 → EReal) (p : ℕ → EReal) (r : ℕ) :
    Ideal.div (0 + p r * k 0 + p (r + 1) * k 1 + p (r + 2) * k 2 + p (r + 3) * k 3)
      (1 + Ideal.exp (-(0 + p r * k 0 + p (r + 1) * k 1 + p (r + 2) * k 2 + p (r + 3) * k 3))) = gated k p r := by
  rw [div_gate]
  have e : 0 + p r * k 0 + p (r + 1) * k 1 + p (r + 2) * k 2 + p (r + 3) * k 3
      = p (r + 3) * k 3 + p r * k 0 + p (r + 1) * k 1 + p (r + 2) * k 2 := by rw [zero_add]; ac_rfl
  rw [e]; rfl

end Halo

end
-- ==== Proof.RefValue.lean ====
/-
  The reference's result, entry by entry.
-/
module

public import proofs.«01_k».proof.Proof.Formula
public import proofs.«01_k».proof.Proof.Gen.ReferenceIdeal.Run

@[expose] public section

noncomputable section

namespace Halo

open Cert.ReferenceIdeal Cert.ReferenceIdeal.Gen
open Idealize.ShloMosaic Idealize.ShloMosaic.TcCoe

/-- The whole column of channel `ch` of batch `b`, with three zero rows before it: what the reference pads to. -/
def column (X : S4x8192x1024.Idx → EReal) (b : Fin 4) (ch : Fin 1024) : ℕ → EReal :=
  padded (fun _ => 0) (fun n : Fin 8192 => X (ix3 b n ch))

/-- A row of it, as the reference reads it. -/
theorem column_apply (X : S4x8192x1024.Idx → EReal) (b : Fin 4) (n : ℕ) (ch : Fin 1024) (h : ¬n < 3 → n - 3 < 8192) :
    (if g : n < 3 then (0 : EReal) else X (ix3 b ⟨n - 3, h g⟩ ch)) = column X b ch n := by
  unfold column padded
  by_cases g : n < 3
  · rw [dif_pos g, dif_pos g]
  · rw [dif_neg g, dif_neg g, dif_pos (h g)]

/-- An entry of the reference's result. -/
theorem reference_apply (m : (ℓ : Loc nD τ sig) → Buf (Elt Ideal) ℓ) (c : Dev nD) (b : Fin 4) (r : Fin 8192) (ch : Fin 1024) :
    Cert.ReferenceIdeal.Value.res_main_v38 m c (ix3 b r ch)
      = gated (fun t => m ((c.tc : Thread nD τ).loc main_arg1) (ix2 t ch)) (column (m ((c.tc : Thread nD τ).loc main_arg0)) b ch) r := by
  unfold Cert.ReferenceIdeal.Value.res_main_v38
  rw [← gated_eq]
  generalize m ((c.tc : Thread nD τ).loc main_arg0) = X
  generalize m ((c.tc : Thread nD τ).loc main_arg1) = K
  pointwise
  simp only [column_apply, Nat.add_comm _ (r : ℕ)]

end Halo

end
-- ==== Proof.BlockValue.lean ====
/-
  The second kernel's result, entry by entry: a batch's block from the taps, the halo rows and the batch's rows.
-/
module

public import proofs.«01_k».proof.Proof.Formula
public import proofs.«01_k».proof.Proof.ConvBody

@[expose] public section

noncomputable section

namespace Halo

open Cert.KernelIdeal Cert.KernelIdeal.Gen
open Idealize.ShloMosaic Idealize.ShloMosaic.TcCoe

/-- One channel of a block of `N` rows, with three rows `t` before it. -/
def channel {N : ℕ} (t : (⟨3, ![1, 3, 1024]⟩ : Shape).Idx → EReal) (x : (⟨3, ![1, N, 1024]⟩ : Shape).Idx → EReal) (ch : Fin 1024) : ℕ → EReal :=
  padded (fun s : Fin 3 => t (ix3 0 s ch)) (fun s : Fin N => x (ix3 0 s ch))

/-- A row of a chunk with its three rows before it, as the body reads it. -/
theorem channel_apply (t : S1x3x1024.Idx → EReal) (x : S1x512x1024.Idx → EReal) (n : ℕ) (ch : Fin 1024) (h : ¬n < 3 → n - 3 < 512) :
    (if g : n < 3 then t (ix3 0 ⟨n, g⟩ ch) else x (ix3 0 ⟨n - 3, h g⟩ ch)) = channel t x ch n := by
  unfold channel padded
  by_cases g : n < 3
  · rw [dif_pos g, dif_pos g]
  · rw [dif_neg g, dif_neg g, dif_pos (h g)]

/-- An entry of one store. -/
theorem pay_apply (k : S4x1024.Idx → EReal) (t : S1x3x1024.Idx → EReal) (x : S1x512x1024.Idx → EReal) (i : Fin 512) (ch : Fin 1024) :
    k1_pay3 (F := Ideal) k t x (ix3 0 i ch) = gated (fun j => k (ix2 j ch)) (channel t x ch) i := by
  unfold k1_pay3 k1_pay2 gated
  have e : channel t x ch (i + 3) = x (ix3 0 i ch) := padded_new _ _ i.isLt
  rw [e]
  pointwise
  simp only [channel_apply, Nat.add_comm _ (i : ℕ)]

/-- `M` rows of a block from row `n` on: row `i` of them is row `n + i` of the block. -/
theorem rows_idx (n M : ℕ) (hn : ∀ a, (![0, n, 0] : Fin 3 → Nat) a + (![1, M, 1024] : Fin 3 → Nat) a ≤ S1x2048x1024.size a) (hM : n + M ≤ 2048)
    (i : Fin M) (ch : Fin 1024) :
    (Rect.unit (s := S1x2048x1024) ![0, n, 0] ![1, M, 1024] hn).idx (ix3 (n0 := 1) (n1 := M) (n2 := 1024) 0 i ch) = ix3 0 ⟨n + i, by omega⟩ ch := by
  funext a
  match a with
  | ⟨0, _⟩ => rfl
  | ⟨1, _⟩ => exact Fin.ext (by show n + 1 * i.val = n + i.val; omega)
  | ⟨2, _⟩ => exact Fin.ext (by show 0 + 1 * ch.val = ch.val; omega)

/-- An entry of the block that the body leaves. -/
def blockEntry (k : S4x1024.Idx → EReal) (h : S1x3x1024.Idx → EReal) (x : S1x2048x1024.Idx → EReal) (y : S1x2048x1024.Idx) : EReal :=
  gated (fun j => k (ix2 j (y 2))) (channel h x (y 2)) (y 1 : Fin 2048)

/-- A store whose chunk starts at row `n` and whose three rows before are the block's: each of its entries is the block's. -/
theorem store_entry (k : S4x1024.Idx → EReal) (h : S1x3x1024.Idx → EReal) (x : S1x2048x1024.Idx → EReal) (u : S1x3x1024.Idx → EReal)
    (n : ℕ) (hn : ∀ a, (![0, n, 0] : Fin 3 → Nat) a + (![1, 512, 1024] : Fin 3 → Nat) a ≤ S1x2048x1024.size a) (hM : n + 512 ≤ 2048)
    (hu : ∀ (s : Fin 3) ch, u (ix3 0 s ch) = channel h x ch (n + s)) (y : S1x512x1024.Idx) :
    k1_pay3 (F := Ideal) k u (fun i => x ((Rect.unit (s := S1x2048x1024) ![0, n, 0] ![1, 512, 1024] hn).idx i)) y
      = blockEntry k h x ((Rect.unit (s := S1x2048x1024) ![0, n, 0] ![1, 512, 1024] hn).idx y) := by
  obtain ⟨i, ch, rfl⟩ : ∃ (i : Fin 512) (ch : Fin 1024), y = ix3 0 i ch :=
    ⟨y 1, y 2, by rw [eq_ix3 y]; congr 1; exact Subsingleton.elim _ _⟩
  rw [pay_apply, rows_idx n 512 hn hM]
  refine gated_congr _ fun j hj => ?_
  refine padded_piece (fun s : Fin 3 => h (ix3 0 s ch)) (fun s : Fin 2048 => x (ix3 0 s ch)) _ _ n (fun s => hu s ch) (fun s => ?_) (by omega) |>.trans ?_
  · beta_reduce
    rw [rows_idx n 512 hn hM, padded_new _ _ (by omega : n + s.val < 2048)]
  · show channel h x ch _ = channel h x ch _
    congr 1; exact (Nat.add_assoc _ _ _).symm

/-- The three rows before a chunk, loaded from the block. -/
theorem tail_entry (h : S1x3x1024.Idx → EReal) (x : S1x2048x1024.Idx → EReal)
    (n : ℕ) (hn : ∀ a, (![0, n, 0] : Fin 3 → Nat) a + (![1, 3, 1024] : Fin 3 → Nat) a ≤ S1x2048x1024.size a) (hM : n + 3 ≤ 2048) (s : Fin 3) (ch : Fin 1024) :
    x ((Rect.unit (s := S1x2048x1024) ![0, n, 0] ![1, 3, 1024] hn).idx (ix3 (n0 := 1) (n1 := 3) (n2 := 1024) 0 s ch)) = channel h x ch (n + 3 + s) := by
  rw [rows_idx n 3 hn hM, show n + 3 + s.val = n + s.val + 3 by omega]
  unfold channel
  rw [padded_new _ _ (by omega : n + s.val < 2048)]

/-- The block that the body leaves, entry by entry. -/
theorem convBlock_apply (k : S4x1024.Idx → EReal) (h : S1x3x1024.Idx → EReal) (x : S1x2048x1024.Idx → EReal) (y : S1x2048x1024.Idx) :
    convBlock (F := Ideal) k h x y = blockEntry k h x y := by
  unfold convBlock
  refine View.read_writes_apply_of_pieces (Val := Elt Ideal) _ _ (fun y => (blockEntry k h x y : Elt Ideal .bf16)) (stores (F := Ideal) k h x)
    (fun p hp => ?_) y (stores_cover (F := Ideal) k h x y)
  unfold stores at hp
  simp only [List.mem_cons, List.not_mem_nil, or_false] at hp
  rcases hp with rfl | rfl | rfl | rfl
  · exact store_entry k h x _ 1536 inb_S1x2048x1024_S1x512x1024_0_1536_0 (by omega) (tail_entry h x 1533 inb_S1x2048x1024_S1x3x1024_0_1533_0 (by omega))
  · exact store_entry k h x _ 1024 inb_S1x2048x1024_S1x512x1024_0_1024_0 (by omega) (tail_entry h x 1021 inb_S1x2048x1024_S1x3x1024_0_1021_0 (by omega))
  · exact store_entry k h x _ 512 inb_S1x2048x1024_S1x512x1024_0_512_0 (by omega) (tail_entry h x 509 inb_S1x2048x1024_S1x3x1024_0_509_0 (by omega))
  · exact store_entry k h x h 0 inb_S1x2048x1024_S1x512x1024_0_0_0 (by omega) (fun s ch => by
      rw [Nat.zero_add]; unfold channel; rw [padded_old _ _ s.isLt])

end Halo

end
-- ==== Proof.KernelValue.lean ====
/-
  The mesh program's result, entry by entry: each device's block from its own rows and the last three rows of the device
  on its left.
-/
module

public import proofs.«01_k».proof.Proof.BlockValue
public import proofs.«01_k».proof.Proof.Run
public import Idealize.ShloMosaic.Lib.Pipeline.ValueKit.Geometry

@[expose] public section

noncomputable section

namespace Halo

open Cert.KernelIdeal Cert.KernelIdeal.Gen
open Idealize.ShloMosaic Idealize.ShloMosaic.TcCoe
open Idealize.ShloMosaic.Pipeline (Dat Cfg)

variable (m : (ℓ : Loc nD τ sig) → Buf (Elt Ideal) ℓ)

/-- After the first kernel a device's halo array holds its halo rows. -/
theorem halo_ends (c : Dev nD) : V2h m c (Proc.devRef .tc main_v2) = haloAt m c := by
  refine (Pipeline.afterRegion_arr (haloDat m c) (V1 m c) winFacts0.arr_inj 0).trans ?_
  refine (haloDat m c).arrAt_eq_of_covers 0 (haloAt m c) (by decide +kernel) fun t hf y => ?_
  blk_simp
  have e : (win0_0.blk t).view.emb y = y := by
    have i0 : ∀ t : Fin cfg0.N, win0_0.index t = ![0, 0, 0] := by decide +kernel
    blk_ext [i0]
  rw [e]; rfl

/-- The other two operands of the second kernel are still the arguments. -/
theorem x_ends (c : Dev nD) : V2h m c (Proc.devRef .tc main_arg0) = m ((c : Thread nD τ).loc main_arg0) :=
  (V2h_of m c main_arg0 (by decide)).trans ((V1_of m c main_arg0 (by decide)).trans rfl)
/-- The taps too. -/
theorem k_ends (c : Dev nD) : V2h m c (Proc.devRef .tc main_arg1) = m ((c : Thread nD τ).loc main_arg1) :=
  (V2h_of m c main_arg1 (by decide)).trans ((V1_of m c main_arg1 (by decide)).trans rfl)

/-! ## Where the blocks lie -/

/-- Point `t` works on block `t` of the argument along the batch axis, -/
theorem index0 : ∀ t : Fin cfg1.N, win1_0.index t = ![t.val, 0, 0] := by decide +kernel
/-- on block `t` of the halo's array, -/
theorem index1 : ∀ t : Fin cfg1.N, win1_1.index t = ![t.val, 0, 0] := by decide +kernel
/-- on all of the taps, -/
theorem index2 : ∀ t : Fin cfg1.N, win1_2.index t = ![0, 0] := by decide +kernel
/-- and writes block `t` of the result. -/
theorem index3 : ∀ t : Fin cfg1.N, win1_3.index t = ![t.val, 0, 0] := by decide +kernel

/-- Point `t` works on batch `t`. -/
abbrev batch (t : Fin cfg1.N) : Fin 4 := t

/-- A point's block of the argument is its batch, -/
theorem block_x (c : Dev nD) (t : Fin cfg1.N) (y : S1x2048x1024.Idx) :
    block m c 0 t y = m ((c : Thread nD τ).loc main_arg0) (ix3 (n0 := 4) (n1 := 2048) (n2 := 1024) (batch t) (y 1) (y 2)) := by
  blk_simp [block]
  rw [x_ends]
  congr 1
  blk_ext [index0]

/-- its block of the halo is the batch's halo rows, -/
theorem block_h (c : Dev nD) (t : Fin cfg1.N) (y : S1x3x1024.Idx) :
    block m c 1 t y = haloAt m c (ix3 (n0 := 4) (n1 := 3) (n2 := 1024) (batch t) (y 1) (y 2)) := by
  blk_simp [block]
  rw [halo_ends]
  congr 1
  blk_ext [index1]

/-- and its block of the taps is all of them. -/
theorem block_k (c : Dev nD) (t : Fin cfg1.N) (y : S4x1024.Idx) :
    block m c 2 t y = m ((c : Thread nD τ).loc main_arg1) y := by
  blk_simp [block]
  rw [k_ends]
  congr 1
  blk_ext [index2]

/-- A device's result: entry `(b, r, ch)` from batch `b` of its argument and of its halo. -/
def resultEntry (c : Dev nD) (y : S4x2048x1024.Idx) : EReal :=
  gated (fun j => m ((c : Thread nD τ).loc main_arg1) (ix2 (n0 := 4) (n1 := 1024) j (y 2)))
    (padded (fun s : Fin 3 => haloAt m c (ix3 (n0 := 4) (n1 := 3) (n2 := 1024) (y 0) s (y 2)))
      (fun s : Fin 2048 => m ((c : Thread nD τ).loc main_arg0) (ix3 (n0 := 4) (n1 := 2048) (n2 := 1024) (y 0) s (y 2)))) (y 1 : Fin 2048)

/-- After the run the result's array holds these entries. -/
theorem result_ends (c : Dev nD) : V3h m c (Proc.devRef .tc main_v3) = resultEntry m c := by
  refine (Pipeline.afterRegion_arr (convDat m c) (V2h m c) winFacts1.arr_inj 3).trans ?_
  refine (convDat m c).arrAt_eq_of_covers 3 _ (by decide +kernel) fun t hf y => ?_
  blk_simp
  rw [after_y]
  have e : (win1_3.blk t).view.emb y = ix3 (n0 := 4) (n1 := 2048) (n2 := 1024) (batch t) (y 1) (y 2) := by
    blk_ext [index3]
  rw [e]
  refine (convBlock_apply _ _ _ y).trans ?_
  exact entry_congr (fun j => block_k m c t (ix2 j (y 2))) (fun s => block_h m c t (ix3 0 s (y 2))) (fun s => block_x m c t (ix3 0 s (y 2))) _

end Halo

end
-- ==== Proof.Value.lean ====
/-
  The value claim: device `c`'s result is block `c` of the reference's, rows `2048 c` to `2048 c + 2047`.
-/
module

public import proofs.«01_k».proof.Defs
public import proofs.«01_k».proof.Proof.RefValue
public import proofs.«01_k».proof.Proof.KernelValue

@[expose] public section

noncomputable section

namespace Halo

open Cert.KernelIdeal Cert.KernelIdeal.Gen
open Idealize.ShloMosaic Idealize.ShloMosaic.TcCoe Idealize.SL.Sem

/-- The shape of the whole array and of a device's block. -/
abbrev Whole : Shape := ⟨3, ![4, 8192, 1024]⟩
/-- A block. -/
abbrev Part : Shape := ⟨3, ![4, 2048, 1024]⟩

/-- Row `r` of block `c` is row `2048 c + r` of the whole. -/
theorem part_apply (c : Fin 4) (X : Whole.Idx → EReal) (b : Fin 4) (r : Fin 2048) (ch : Fin 1024) :
    Layout.block Part Whole 1 4 c X (by decide) (ix3 (n0 := 4) (n1 := 2048) (n2 := 1024) b r ch)
      = X (ix3 b (⟨2048 * c.val + r.val, by omega⟩ : Fin 8192) ch) := by
  rw [Layout.block_apply]
  congr 1
  funext a
  match a with
  | ⟨0, _⟩ => rfl
  | ⟨1, _⟩ => exact Fin.ext (by show c.val * 2048 + r.val = 2048 * c.val + r.val; omega)
  | ⟨2, _⟩ => rfl

variable (m : (ℓ : Loc nD τ sig) → Buf (Elt Ideal) ℓ) (X : Whole.Idx → EReal)
variable (hX : ∀ c : Dev nD, m ((c : Thread nD τ).loc main_arg0) = Layout.block Part Whole 1 4 c X)

include hX in
/-- A device's halo rows are the three rows of the padded column that come before its own. -/
theorem halo_rows (c : Dev nD) (b : Fin 4) (s : Fin 3) (ch : Fin 1024) :
    haloAt m c (ix3 (n0 := 4) (n1 := 3) (n2 := 1024) b s ch) = column X b ch (2048 * c.val + s.val) := by
  have hc : c.val < 4 := c.isLt
  unfold haloAt
  by_cases h : c.val = 0
  · rw [if_pos h, h]
    refine Eq.trans ?_ (padded_old (fun _ => (0 : EReal)) (fun n : Fin 8192 => X (ix3 b n ch)) (by omega : 2048 * 0 + s.val < 3)).symm
    exact Ideal.ofBits_zero_bf16
  · rw [if_neg h]
    have e : landed m c (ix3 (n0 := 4) (n1 := 3) (n2 := 1024) b s ch)
        = m ((left c : Thread nD τ).loc main_arg0) (ix3 (n0 := 4) (n1 := 2048) (n2 := 1024) b (⟨2045 + s.val, by omega⟩ : Fin 2048) ch) := by
      unfold landed sent
      pointwise
    rw [e, hX]
    refine (part_apply (left c) X b _ ch).trans ?_
    have hl : (left c).val = c.val - 1 := by show (c.val + 3) % 4 = c.val - 1; omega
    rw [show 2048 * c.val + s.val = (2048 * (c.val - 1) + (2045 + s.val)) + 3 by omega]
    refine Eq.trans ?_ (padded_new (fun _ => (0 : EReal)) (fun n : Fin 8192 => X (ix3 b n ch)) (by omega : 2048 * (c.val - 1) + (2045 + s.val) < 8192)).symm
    congr 2
    exact Fin.ext (by show 2048 * (left c).val + (2045 + s.val) = 2048 * (c.val - 1) + (2045 + s.val); rw [hl])

include hX in
/-- A device's entry, by the whole column. -/
theorem entry_whole (c : Dev nD) (b : Fin 4) (r : Fin 2048) (ch : Fin 1024) :
    resultEntry m c (ix3 (n0 := 4) (n1 := 2048) (n2 := 1024) b r ch)
      = gated (fun j => m ((c : Thread nD τ).loc main_arg1) (ix2 (n0 := 4) (n1 := 1024) j ch)) (column X b ch) (2048 * c.val + r.val) := by
  have hc : c.val < 4 := c.isLt
  refine gated_congr _ fun i hi => ?_
  refine (padded_piece (fun _ => (0 : EReal)) (fun n : Fin 8192 => X (ix3 b n ch)) _ _ (2048 * c.val)
    (fun s => halo_rows m X hX c b s ch) (fun s => ?_) (by show r.val + i < 2048 + 3; omega)).trans ?_
  · beta_reduce
    rw [hX]
    refine (part_apply c X b s ch).trans ?_
    rw [padded_new _ _ (by omega : 2048 * c.val + s.val < 8192)]
  · show column X b ch _ = column X b ch _
    congr 1; exact (Nat.add_assoc _ _ _).symm

include hX in
/-- A device's result is its block of any whole result whose entries are the reference's. -/
theorem result_part (K : (⟨2, ![4, 1024]⟩ : Shape).Idx → EReal) (hK : ∀ c : Dev nD, m ((c : Thread nD τ).loc main_arg1) = K) (Y : Whole.Idx → EReal)
    (hY : ∀ (b : Fin 4) (r : Fin 8192) (ch : Fin 1024), Y (ix3 b r ch) = gated (fun t => K (ix2 t ch)) (column X b ch) r) (c : Dev nD) :
    V3h m c (Proc.devRef .tc main_v3) = Layout.block Part Whole 1 4 c Y := by
  rw [result_ends]
  funext y
  obtain ⟨b, n, ch, rfl⟩ : ∃ (b : Fin 4) (n : Fin 2048) (ch : Fin 1024), y = ix3 b n ch := ⟨y 0, y 1, y 2, eq_ix3 y⟩
  refine (entry_whole m X hX c b n ch).trans ?_
  refine Eq.trans ?_ (part_apply c Y b n ch).symm
  rw [hY]
  exact congrArg (fun K : (⟨2, ![4, 1024]⟩ : Shape).Idx → EReal => gated (fun j => K (ix2 j ch)) (column X b ch) (2048 * c.val + n.val)) (hK c)

/-- The value claim. -/
theorem value : Cert.algebraic_KernelIdeal_ReferenceIdeal (hKernelIdeal := Cert.KernelIdeal.Gen.facts)
    (hReferenceIdeal := Cert.ReferenceIdeal.Gen.facts) := fun m ρ m' ρ' _ hm =>
  ⟨Cert.ReferenceIdeal.Value.res_main_v38 m' 0,
    (θ_run Cert.KernelIdeal.defs _ _).mono (fun r h c => ⟨(h.1 c).1.trans (result_part m _ (fun c => (hm c).1) _ (fun c => (hm c).2) _
      (fun b r ch => reference_apply m' 0 b r ch) c), (h.1 c).2⟩) (run_main (F := Ideal) m ρ),
    (θ_run Cert.ReferenceIdeal.defs _ _).mono (fun r h => h 0) (Cert.ReferenceIdeal.Value.run m' ρ')⟩

end Halo

end
-- ==== Proof.lean ====
/- The claim, put together: the three frames, the idealization (which rewrites nothing) and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Halo.frame_kernel, Halo.frame_ideal, Halo.frame_reference, trivial, Halo.value⟩

end Cert.Proof

end
